-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S14336x4096 : Shape := ⟨2, ![14336, 4096]⟩
abbrev S448x4096 : Shape := ⟨2, ![448, 4096]⟩
abbrev S128x448x32 : Shape := ⟨3, ![128, 448, 32]⟩
abbrev S_ : Shape := ⟨0, ![]⟩
abbrev S128x448 : Shape := ⟨2, ![128, 448]⟩
abbrev S4x32x14336 : Shape := ⟨3, ![4, 32, 14336]⟩
abbrev S4x14336 : Shape := ⟨2, ![4, 14336]⟩

class Facts : Prop where
  bitsLt_bf16_f32 : FTy.bits .bf16 < FTy.bits .f32
  shapeCasts_S1x128x14336_S128x448x32 : S1x128x14336.ShapeCasts S128x448x32
  reducesTo_S128x448x32_S128x448_d2 : S128x448x32.ReducesTo [2] S128x448
  h_S_ : 0 < S_.numel
  shapeCasts_S1x128x14336_S4x32x14336 : S1x128x14336.ShapeCasts S4x32x14336
  reducesTo_S4x32x14336_S4x14336_d1 : S4x32x14336.ReducesTo [1] S4x14336
  natLt_8_32 : 8 < 32
  bcast_S_S128x448 : S_.BroadcastsInDim S128x448 (![] : Fin 0 → Fin S128x448.rank)
  bcast_S_S4x14336 : S_.BroadcastsInDim S4x14336 (![] : Fin 0 → Fin S4x14336.rank)
  bcast_S_S1x4x4096 : S_.BroadcastsInDim S1x4x4096 (![] : Fin 0 → Fin S1x4x4096.rank)
  bcast_S_S448x4096 : S_.BroadcastsInDim S448x4096 (![] : Fin 0 → Fin S448x4096.rank)

variable [Facts]

def fn_part2 {F : FTy → Type} [FloatOps F] (main_v7 : IVec S448x4096 32) (main_v18 : IVec S128x448 1) (main_v29 : IVec S4x14336 1) (main_v34 : IVec S1x4x4096 1) (main_c_10 : IVec S_ 32) : IVec S128x448 1 × IVec S4x14336 1 × IVec S1x4x4096 1 × IVec S448x4096 1 :=
  let main_v35 : IVec S448x4096 32 := broadcastInDim S448x4096 ![] bcast_S_S448x4096 main_c_10
  let main_v36 : IVec S448x4096 1 := cmpi .sge main_v7 main_v35
  let main_c_11 : IVec S_ 32 := constantI S_ 32 254#32
  let main_v37 : IVec S448x4096 32 := broadcastInDim S448x4096 ![] bcast_S_S448x4096 main_c_11
  let main_v38 : IVec S448x4096 1 := cmpi .sle main_v7 main_v37
  let main_v39 : IVec S448x4096 1 := andi main_v36 main_v38
  (main_v18, main_v29, main_v34, main_v39)

def fn_part1 {F : FTy → Type} [FloatOps F] (main_v5 : FVec F S4x14336 .f32) (main_v6 : IVec S1x4x4096 32) (main_v7 : IVec S448x4096 32) (main_v15 : IVec S128x448 1) (main_v17 : IVec S128x448 1) : IVec S128x448 1 × IVec S4x14336 1 × IVec S1x4x4096 1 × IVec S448x4096 1 :=
  let main_v18 : IVec S128x448 1 := ori main_v15 main_v17
  let main_cst_5 : FVec F S_ .f32 := constant S_ .f32 0x00000000#32
  let main_v19 : FVec F S4x14336 .f32 := broadcastInDim S4x14336 ![] bcast_S_S4x14336 main_cst_5
  let main_v20 : IVec S4x14336 1 := cmpf .oeq main_v5 main_v19
  let main_cst_6 : FVec F S_ .f32 := constant S_ .f32 0x04E00000#32
  let main_v21 : FVec F S4x14336 .f32 := broadcastInDim S4x14336 ![] bcast_S_S4x14336 main_cst_6
  let main_v22 : IVec S4x14336 1 := cmpf .oge main_v5 main_v21
  let main_cst_7 : FVec F S_ .f32 := constant S_ .f32 0x7F7FFFFF#32
  let main_v23 : FVec F S4x14336 .f32 := broadcastInDim S4x14336 ![] bcast_S_S4x14336 main_cst_7
  let main_v24 : IVec S4x14336 1 := cmpf .ole main_v5 main_v23
  let main_v25 : IVec S4x14336 1 := andi main_v22 main_v24
  let main_v26 : IVec S4x14336 1 := ori main_v20 main_v25
  let main_cst_8 : FVec F S_ .f32 := constant S_ .f32 0x7F800000#32
  let main_v27 : FVec F S4x14336 .f32 := broadcastInDim S4x14336 ![] bcast_S_S4x14336 main_cst_8
  let main_v28 : IVec S4x14336 1 := cmpf .oeq main_v5 main_v27
  let main_v29 : IVec S4x14336 1 := ori main_v26 main_v28
  let main_c : IVec S_ 32 := constantI S_ 32 1#32
  let main_v30 : IVec S1x4x4096 32 := broadcastInDim S1x4x4096 ![] bcast_S_S1x4x4096 main_c
  let main_v31 : IVec S1x4x4096 1 := cmpi .sge main_v6 main_v30
  let main_c_9 : IVec S_ 32 := constantI S_ 32 254#32
  let main_v32 : IVec S1x4x4096 32 := broadcastInDim S1x4x4096 ![] bcast_S_S1x4x4096 main_c_9
  let main_v33 : IVec S1x4x4096 1 := cmpi .sle main_v6 main_v32
  let main_v34 : IVec S1x4x4096 1 := andi main_v31 main_v33
  let main_c_10 : IVec S_ 32 := constantI S_ 32 1#32
  fn_part2 (F := F) main_v7 main_v18 main_v29 main_v34 main_c_10

def fn {F : FTy → Type} [FloatOps F] (main_arg0 : FVec F S1x128x14336 .bf16) (main_arg1 : FVec F S1x128x4096 .fp8e4m3) (main_arg2 : IVec S1x4x4096 8) (main_arg3 : FVec F S14336x4096 .fp8e4m3) (main_arg4 : IVec S448x4096 8) : IVec S128x448 1 × IVec S4x14336 1 × IVec S1x4x4096 1 × IVec S448x4096 1 :=
  let main_v0 : FVec F S1x128x14336 .f32 := (extf .f32 · bitsLt_bf16_f32) main_arg0
  let main_v1 : FVec F S1x128x14336 .f32 := Host.absf main_v0
  let main_v2 : FVec F S128x448x32 .f32 := shapeCast S128x448x32 main_v1 shapeCasts_S1x128x14336_S128x448x32
  let main_cst : FVec F S_ .f32 := constant S_ .f32 0xFF800000#32
  let main_v3 : FVec F S128x448 .f32 := (fun x v => Host.reduce FloatOps.maximumf x v reducesTo_S128x448x32_S128x448_d2 h_S_) main_v2 main_cst
  let main_v4 : FVec F S4x32x14336 .f32 := shapeCast S4x32x14336 main_v1 shapeCasts_S1x128x14336_S4x32x14336
  let main_cst_0 : FVec F S_ .f32 := constant S_ .f32 0xFF800000#32
  let main_v5 : FVec F S4x14336 .f32 := (fun x v => Host.reduce FloatOps.maximumf x v reducesTo_S4x32x14336_S4x14336_d1 h_S_) main_v4 main_cst_0
  let main_v6 : IVec S1x4x4096 32 := (extui 32 · natLt_8_32) main_arg2
  let main_v7 : IVec S448x4096 32 := (extui 32 · natLt_8_32) main_arg4
  let main_cst_1 : FVec F S_ .f32 := constant S_ .f32 0x00000000#32
  let main_v8 : FVec F S128x448 .f32 := broadcastInDim S128x448 ![] bcast_S_S128x448 main_cst_1
  let main_v9 : IVec S128x448 1 := cmpf .oeq main_v3 main_v8
  let main_cst_2 : FVec F S_ .f32 := constant S_ .f32 0x04E00000#32
  let main_v10 : FVec F S128x448 .f32 := broadcastInDim S128x448 ![] bcast_S_S128x448 main_cst_2
  let main_v11 : IVec S128x448 1 := cmpf .oge main_v3 main_v10
  let main_cst_3 : FVec F S_ .f32 := constant S_ .f32 0x7F7FFFFF#32
  let main_v12 : FVec F S128x448 .f32 := broadcastInDim S128x448 ![] bcast_S_S128x448 main_cst_3
  let main_v13 : IVec S128x448 1 := cmpf .ole main_v3 main_v12
  let main_v14 : IVec S128x448 1 := andi main_v11 main_v13
  let main_v15 : IVec S128x448 1 := ori main_v9 main_v14
  let main_cst_4 : FVec F S_ .f32 := constant S_ .f32 0x7F800000#32
  let main_v16 : FVec F S128x448 .f32 := broadcastInDim S128x448 ![] bcast_S_S128x448 main_cst_4
  let main_v17 : IVec S128x448 1 := cmpf .oeq main_v3 main_v16
  fn_part1 (F := F) main_v5 main_v6 main_v7 main_v15 main_v17
-- ==== Kernel.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S14336x4096 : Shape := ⟨2, ![14336, 4096]⟩
abbrev S448x4096 : Shape := ⟨2, ![448, 4096]⟩
abbrev S128x14336 : Shape := ⟨2, ![128, 14336]⟩
abbrev S128x4096 : Shape := ⟨2, ![128, 4096]⟩
abbrev S4x4096 : Shape := ⟨2, ![4, 4096]⟩
abbrev S128x448 : Shape := ⟨2, ![128, 448]⟩
abbrev S4x14336 : Shape := ⟨2, ![4, 14336]⟩
abbrev S128x1024 : Shape := ⟨2, ![128, 1024]⟩
abbrev S1024x4096 : Shape := ⟨2, ![1024, 4096]⟩
abbrev S32x4096 : Shape := ⟨2, ![32, 4096]⟩
abbrev S4x1024 : Shape := ⟨2, ![4, 1024]⟩
abbrev S1024x128 : Shape := ⟨2, ![1024, 128]⟩
abbrev S448x128 : Shape := ⟨2, ![448, 128]⟩
abbrev S1x4096 : Shape := ⟨2, ![1, 4096]⟩
abbrev S4x32x1024 : Shape := ⟨3, ![4, 32, 1024]⟩
abbrev S4x1x1024 : Shape := ⟨3, ![4, 1, 1024]⟩
abbrev S32x32x128 : Shape := ⟨3, ![32, 32, 128]⟩
abbrev S32x128 : Shape := ⟨2, ![32, 128]⟩
abbrev S32x1024 : Shape := ⟨2, ![32, 1024]⟩
abbrev S1024x512 : Shape := ⟨2, ![1024, 512]⟩
abbrev S32x32x512 : Shape := ⟨3, ![32, 32, 512]⟩
abbrev S32x512 : Shape := ⟨2, ![32, 512]⟩
abbrev S32x1x512 : Shape := ⟨3, ![32, 1, 512]⟩
abbrev S128x512 : Shape := ⟨2, ![128, 512]⟩

abbrev nBuf : Space → Nat
  | .hbm => 14
  | .vmem => 24
  | .smem => 0
  | _ => 0

abbrev bufTy : (tb : Table) → Fin (tcTables nBuf tb) → BufTy
  | .hbm, ⟨0, _⟩ => ⟨S1x128x14336, .bf16⟩
  | .hbm, ⟨1, _⟩ => ⟨S1x128x4096, .fp8e4m3⟩
  | .hbm, ⟨2, _⟩ => ⟨S1x4x4096, .i8⟩
  | .hbm, ⟨3, _⟩ => ⟨S14336x4096, .fp8e4m3⟩
  | .hbm, ⟨4, _⟩ => ⟨S448x4096, .i8⟩
  | .hbm, ⟨5, _⟩ => ⟨S128x14336, .bf16⟩
  | .hbm, ⟨6, _⟩ => ⟨S128x4096, .fp8e4m3⟩
  | .hbm, ⟨7, _⟩ => ⟨S4x4096, .i8⟩
  | .hbm, ⟨8, _⟩ => ⟨S128x4096, .bf16⟩
  | .hbm, ⟨9, _⟩ => ⟨S14336x4096, .f32⟩
  | .hbm, ⟨10, _⟩ => ⟨S128x14336, .fp8e4m3⟩
  | .hbm, ⟨11, _⟩ => ⟨S128x448, .i8⟩
  | .hbm, ⟨12, _⟩ => ⟨S128x14336, .fp8e4m3⟩
  | .hbm, ⟨13, _⟩ => ⟨S4x14336, .i8⟩
  | .local _ .vmem, ⟨0, _⟩ => ⟨S128x1024, .bf16⟩
  | .local _ .vmem, ⟨1, _⟩ => ⟨S128x1024, .bf16⟩
  | .local _ .vmem, ⟨2, _⟩ => ⟨S128x4096, .fp8e4m3⟩
  | .local _ .vmem, ⟨3, _⟩ => ⟨S4x4096, .i8⟩
  | .local _ .vmem, ⟨4, _⟩ => ⟨S1024x4096, .fp8e4m3⟩
  | .local _ .vmem, ⟨5, _⟩ => ⟨S1024x4096, .fp8e4m3⟩
  | .local _ .vmem, ⟨6, _⟩ => ⟨S32x4096, .i8⟩
  | .local _ .vmem, ⟨7, _⟩ => ⟨S32x4096, .i8⟩
  | .local _ .vmem, ⟨8, _⟩ => ⟨S128x4096, .bf16⟩
  | .local _ .vmem, ⟨9, _⟩ => ⟨S1024x4096, .f32⟩
  | .local _ .vmem, ⟨10, _⟩ => ⟨S1024x4096, .f32⟩
  | .local _ .vmem, ⟨11, _⟩ => ⟨S128x1024, .fp8e4m3⟩
  | .local _ .vmem, ⟨12, _⟩ => ⟨S128x1024, .fp8e4m3⟩
  | .local _ .vmem, ⟨13, _⟩ => ⟨S128x448, .i8⟩
  | .local _ .vmem, ⟨14, _⟩ => ⟨S128x1024, .fp8e4m3⟩
  | .local _ .vmem, ⟨15, _⟩ => ⟨S128x1024, .fp8e4m3⟩
  | .local _ .vmem, ⟨16, _⟩ => ⟨S4x1024, .i8⟩
  | .local _ .vmem, ⟨17, _⟩ => ⟨S4x1024, .i8⟩
  | .local _ .vmem, ⟨18, _⟩ => ⟨S128x4096, .f32⟩
  | .local _ .vmem, ⟨19, _⟩ => ⟨S128x4096, .bf16⟩
  | .local _ .vmem, ⟨20, _⟩ => ⟨S128x1024, .bf16⟩
  | .local _ .vmem, ⟨21, _⟩ => ⟨S1024x128, .bf16⟩
  | .local _ .vmem, ⟨22, _⟩ => ⟨S32x4096, .f32⟩
  | .local _ .vmem, ⟨23, _⟩ => ⟨S448x128, .i32⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![14], ![false]⟩

def k0_off1 (i : grid0.Coords) : Fin 2 → Nat :=
  let arg0 : BitVec 32 := BitVec.ofNat 32 (i 0).val
  let c32_i32_62 : BitVec 32 := 32#32
  let v212 : BitVec 32 := Scalar.muli arg0 c32_i32_62
  let v213 : Index := Scalar.indexCast v212
  let c0_63 : Index := 0#32
  ![v213.toNat, 0]
@[reducible] def k0_t1_loop : Scf.Loop 32 :=
  let c0_i32_111 : BitVec 32 := 0#32
  let c8_i32_112 : BitVec 32 := 8#32
  let v351 : BitVec 32 := Scalar.addi c0_i32_111 c8_i32_112
  let c1_i32_113 : BitVec 32 := 1#32
  ⟨c0_i32_111, v351, c1_i32_113⟩
def k0_off2 (k0_t1 : Fin k0_t1_loop.trips) : Fin 2 → Nat :=
  let c0_118 : Index := 0#32
  let c0_i32_117 : BitVec 32 := 0#32
  let c0_i32_111 : BitVec 32 := 0#32
  let c1_i32_113 : BitVec 32 := 1#32
  let arg18 : BitVec 32 := Scf.iv c0_i32_111 c1_i32_113 k0_t1
  let c1_i32_116 : BitVec 32 := 1#32
  let v355 : BitVec 32 := Scalar.muli arg18 c1_i32_116
  let v356 : BitVec 32 := Scalar.addi c0_i32_117 v355
  let c512_i32 : BitVec 32 := 512#32
  let v357 : BitVec 32 := Scalar.muli v356 c512_i32
  let v358 : Index := Scalar.indexCast v357
  ![0, v358.toNat]
def k0_off3 (k0_t1 : Fin k0_t1_loop.trips) : Fin 2 → Nat :=
  let c0_119 : Index := 0#32
  let c0_i32_117 : BitVec 32 := 0#32
  let c0_i32_111 : BitVec 32 := 0#32
  let c1_i32_113 : BitVec 32 := 1#32
  let arg18 : BitVec 32 := Scf.iv c0_i32_111 c1_i32_113 k0_t1
  let c1_i32_116 : BitVec 32 := 1#32
  let v355 : BitVec 32 := Scalar.muli arg18 c1_i32_116
  let v356 : BitVec 32 := Scalar.addi c0_i32_117 v355
  let c512_i32 : BitVec 32 := 512#32
  let v357 : BitVec 32 := Scalar.muli v356 c512_i32
  let v362 : Index := Scalar.indexCast v357
  ![0, v362.toNat]
def k0_off4 (k0_t1 : Fin k0_t1_loop.trips) : Fin 2 → Nat :=
  let c0_120 : Index := 0#32
  let c0_i32_117 : BitVec 32 := 0#32
  let c0_i32_111 : BitVec 32 := 0#32
  let c1_i32_113 : BitVec 32 := 1#32
  let arg18 : BitVec 32 := Scf.iv c0_i32_111 c1_i32_113 k0_t1
  let c1_i32_116 : BitVec 32 := 1#32
  let v355 : BitVec 32 := Scalar.muli arg18 c1_i32_116
  let v356 : BitVec 32 := Scalar.addi c0_i32_117 v355
  let c512_i32 : BitVec 32 := 512#32
  let v357 : BitVec 32 := Scalar.muli v356 c512_i32
  let v369 : Index := Scalar.indexCast v357
  ![0, v369.toNat]
def k0_cond2 (i : grid0.Coords) : BitVec 1 :=
  let arg0 : BitVec 32 := BitVec.ofNat 32 (i 0).val
  let c13_i32 : BitVec 32 := 13#32
  let v352 : BitVec 1 := Scalar.cmpi .eq arg0 c13_i32
  let v353 : BitVec 32 := Scalar.extui v352
  let c0_i32_115 : BitVec 32 := 0#32
  let v354 : BitVec 1 := Scalar.cmpi .ne v353 c0_i32_115
  v354

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x448 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x128x14336 : Shape := ⟨3, ![1, 128, 14336]⟩
abbrev S1x128x4096 : Shape := ⟨3, ![1, 128, 4096]⟩
abbrev S1x4x4096 : Shape := ⟨3, ![1, 4, 4096]⟩
abbrev S14336x4096 : Shape := ⟨2, ![14336, 4096]⟩
abbrev S448x4096 : Shape := ⟨2, ![448, 4096]⟩
abbrev S128x4096 : Shape := ⟨2, ![128, 4096]⟩
abbrev S128x14336 : Shape := ⟨2, ![128, 14336]⟩
abbrev S128x448 : Shape := ⟨2, ![128, 448]⟩
abbrev S4x14336 : Shape := ⟨2, ![4, 14336]⟩
abbrev S128x448x32 : Shape := ⟨3, ![128, 448, 32]⟩
abbrev S128x448x1 : Shape := ⟨3, ![128, 448, 1]⟩
abbrev S4x32x14336 : Shape := ⟨3, ![4, 32, 14336]⟩
abbrev S4x1x14336 : Shape := ⟨3, ![4, 1, 14336]⟩
abbrev S448x32x4096 : Shape := ⟨3, ![448, 32, 4096]⟩
abbrev S448x1x4096 : Shape := ⟨3, ![448, 1, 4096]⟩
abbrev S4x32x4096 : Shape := ⟨3, ![4, 32, 4096]⟩
abbrev S4x4096 : Shape := ⟨2, ![4, 4096]⟩
abbrev S4x1x4096 : Shape := ⟨3, ![4, 1, 4096]⟩

abbrev nBuf : Space → Nat
  | .hbm => 11
  | .vmem => 11
  | .smem => 0
  | _ => 0

abbrev bufTy : (tb : Table) → Fin (tcTables nBuf tb) → BufTy
  | .hbm, ⟨0, _⟩ => ⟨S1x128x14336, .bf16⟩
  | .hbm, ⟨1, _⟩ => ⟨S1x128x4096, .fp8e4m3⟩
  | .hbm, ⟨2, _⟩ => ⟨S1x4x4096, .i8⟩
  | .hbm, ⟨3, _⟩ => ⟨S14336x4096, .fp8e4m3⟩
  | .hbm, ⟨4, _⟩ => ⟨S448x4096, .i8⟩
  | .hbm, ⟨5, _⟩ => ⟨S128x4096, .bf16⟩
  | .hbm, ⟨6, _⟩ => ⟨S14336x4096, .f32⟩
  | .hbm, ⟨7, _⟩ => ⟨S128x14336, .fp8e4m3⟩
  | .hbm, ⟨8, _⟩ => ⟨S128x448, .i8⟩
  | .hbm, ⟨9, _⟩ => ⟨S128x14336, .fp8e4m3⟩
  | .hbm, ⟨10, _⟩ => ⟨S4x14336, .i8⟩
  | .local _ .vmem, ⟨0, _⟩ => ⟨S1x128x14336, .bf16⟩
  | .local _ .vmem, ⟨1, _⟩ => ⟨S1x128x4096, .fp8e4m3⟩
  | .local _ .vmem, ⟨2, _⟩ => ⟨S1x4x4096, .i8⟩
  | .local _ .vmem, ⟨3, _⟩ => ⟨S14336x4096, .fp8e4m3⟩
  | .local _ .vmem, ⟨4, _⟩ => ⟨S448x4096, .i8⟩
  | .local _ .vmem, ⟨5, _⟩ => ⟨S128x4096, .bf16⟩
  | .local _ .vmem, ⟨6, _⟩ => ⟨S14336x4096, .f32⟩
  | .local _ .vmem, ⟨7, _⟩ => ⟨S128x14336, .fp8e4m3⟩
  | .local _ .vmem, ⟨8, _⟩ => ⟨S128x448, .i8⟩
  | .local _ .vmem, ⟨9, _⟩ => ⟨S128x14336, .fp8e4m3⟩
  | .local _ .vmem, ⟨10, _⟩ => ⟨S4x14336, .i8⟩
  | _, _ => ⟨S1x128x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x128x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14336x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S448x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x14336 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x448 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x14336 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x14336 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Run.Base.lean ====
/-
  Which of the body's two conditionals run at which grid point, where the two outputs stored at the last point only are
  idle, and the buffers the body is handed.
-/
module

public import proofs.«01_k».proof.Proof.Gen.KernelIdeal.Frame
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 1 % 14 := Pipeline.Grid.coords_val t 0 (by decide) rfl
    simp only [cond0_0, e0]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 14 = 13 :=
  (fun t => by
    have ht : t.val < 14 := Nat.lt_of_lt_of_eq t.isLt N_0
    have e0 : (grid0.coords t 0).val = t.val / 1 % 14 := Pipeline.Grid.coords_val t 0 (by decide) rfl
    simp only [cond0_1, k0_cond2, e0]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- Window 9 is never idle (an output stored at every point, under no condition). -/
theorem liveAt0_9 : ∀ t : Fin cfg0.N, cfg0.idle 9 (grid0.coords t) = false := fun _ => rfl
/-- Window 10 is never idle (an output stored at every point, under no condition). -/
theorem liveAt0_10 : ∀ t : Fin cfg0.N, cfg0.idle 10 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The staging buffers and the scratch -/

/-- Each window's current staging memref at point `t`, spelled as the pipeline passes it (`bodyAt0`), and its wholeness. -/
abbrev ms0_0 (t : Fin cfg0.N) : Memref sig .tc .vmem S128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x4096 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x4096 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x448 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x1024 .i8 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S128x4096 .f32 := Memref.whole cc0_scratch0
abbrev scM0_1 : Memref sig .tc .vmem S128x4096 .bf16 := Memref.whole cc0_scratch1
abbrev scM0_2 : Memref sig .tc .vmem S128x1024 .bf16 := Memref.whole cc0_scratch2
abbrev scM0_3 : Memref sig .tc .vmem S1024x128 .bf16 := Memref.whole cc0_scratch3
abbrev scM0_4 : Memref sig .tc .vmem S32x4096 .f32 := Memref.whole cc0_scratch4
abbrev scM0_5 : Memref sig .tc .vmem S448x128 .i32 := Memref.whole cc0_scratch5

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Run

end
-- ==== Proof.Run.Values.lean ====
/-
  What the kernel's body computes from the blocks it is handed, at any reading of the floats: the names used by the
  statements about its runs. Each is a composition of the printed operations (`Gen.k0_payN`), nothing else.
-/
module

public import proofs.«01_k».proof.Proof.Gen.KernelIdeal.Loops
public import Idealize.ShloMosaic.Lib.VecWindow

@[expose] public section

set_option maxRecDepth 16384

noncomputable section

namespace Cert.KernelIdeal.Run

open Idealize.ShloMosaic Cert.KernelIdeal Cert.KernelIdeal.Gen

variable {F : FTy → Type} [FloatOps F]

/-! ## Of the block of `dy` (128 tokens by 1024 features) -/

/-- The exponent field of each column block's largest magnitude over 448. -/
abbrev colExp (x0 : Vec F S128x1024 .bf16) : IVec S4x1024 32 := k0_pay19 (k0_pay16 x0) (k0_pay17 x0) (k0_pay18 x0)
/-- Whether that field is 0. -/
abbrev colZero (x0 : Vec F S128x1024 .bf16) : IVec S4x1024 1 := k0_pay20 (k0_pay16 x0) (k0_pay17 x0) (k0_pay18 x0)
/-- The column scales, stored. -/
def colScale (x0 : Vec F S128x1024 .bf16) : IVec S4x1024 8 := k0_pay22 (colExp x0) (colZero x0)
/-- The column codes, stored. -/
def colCode (x0 : Vec F S128x1024 .bf16) : FVec F S128x1024 .fp8e4m3 := k0_pay24 (k0_pay15 x0) (colExp x0) (colZero x0)
/-- The column-quantised block, transposed. -/
def colDeq (x0 : Vec F S128x1024 .bf16) : FVec F S1024x128 .bf16 := k0_pay25 (k0_pay15 x0) (colExp x0) (colZero x0)

/-- The largest magnitude of each row block (32 features of one token). -/
abbrev rowMax (x0 : Vec F S128x1024 .bf16) : FVec F S32x128 .f32 := k0_pay26 (k0_pay13 x0)
/-- The row scales' bytes, before they are stored. -/
abbrev rowByte (x0 : Vec F S128x1024 .bf16) : IVec S32x128 32 :=
  k0_pay30 (k0_pay27 (rowMax x0)) (k0_pay28 (rowMax x0)) (k0_pay29 (rowMax x0))
/-- The row scales of the block, stored in the block's rows of the scale scratch. -/
def rowScale (x0 : Vec F S128x1024 .bf16) : IVec S32x128 32 := k0_pay31 (rowByte x0)
/-- The row scales spread over the features. -/
abbrev rowSpread (x0 : Vec F S128x1024 .bf16) : FVec F S128x1024 .f32 := k0_pay32 (rowByte x0)
/-- Their exponent fields. -/
abbrev rowExp (x0 : Vec F S128x1024 .bf16) : IVec S128x1024 32 := k0_pay34 (rowSpread x0) (k0_pay33 (F := F) (rowByte x0))
/-- The row codes, stored. -/
def rowCode (x0 : Vec F S128x1024 .bf16) : FVec F S128x1024 .fp8e4m3 := k0_pay35 (k0_pay14 x0) (rowSpread x0) (rowExp x0)
/-- The row-quantised block. -/
def rowDeq (x0 : Vec F S128x1024 .bf16) : FVec F S128x1024 .bf16 := k0_pay36 (k0_pay14 x0) (rowSpread x0) (rowExp x0)

/-! ## Of the weights' scales, and of `x` -/

/-- The weights' scales. -/
def wScale (x4 : Vec F S32x4096 .i8) : FVec F S32x4096 .f32 := k0_pay1 (k0_pay37 x4)

/-- Rows `[32 b, 32 b + 32)` of `x`'s codes. -/
abbrev xRows (b : ℕ) (h : ∀ a, (![b, 0] : Fin 2 → ℕ) a + S32x4096.size a ≤ S128x4096.size a) (x1 : Vec F S128x4096 .fp8e4m3) : Vec F S32x4096 .fp8e4m3 :=
  VecWindow.window x1 ![b, 0] S32x4096.size h

/-- `x` scaled, over what the scratch held: four stores of 32 rows each. -/
def xDeq (x1 : Vec F S128x4096 .fp8e4m3) (x2 : Vec F S4x4096 .i8) (d : Vec F S128x4096 .bf16) : Vec F S128x4096 .bf16 :=
  VecWindow.put (VecWindow.put (VecWindow.put (VecWindow.put d
    ![0, 0] S32x4096.size (k0_pay8 x2 (xRows 0 inb_S128x4096_S32x4096_0_0 x1)))
    ![32, 0] S32x4096.size (k0_pay9 x2 (xRows 32 inb_S128x4096_S32x4096_32_0 x1)))
    ![64, 0] S32x4096.size (k0_pay11 (k0_pay10 x2 (xRows 64 inb_S128x4096_S32x4096_64_0 x1))))
    ![96, 0] S32x4096.size (k0_pay12 (k0_pay7 x2) (xRows 96 inb_S128x4096_S32x4096_96_0 x1))

/-- `x` scaled, in bfloat16: the four stores fill the scratch, so what it held before is of no account. -/
def xDeq0 (x1 : Vec F S128x4096 .fp8e4m3) (x2 : Vec F S4x4096 .i8) : Vec F S128x4096 .bf16 :=
  xDeq x1 x2 (fun _ => Scalar.ofBits .bf16 0x0000#16)

/-! ## The loop over 512-column panels -/

/-- What trip `k` stores into the weight gradient's block: the transposed block times `x`'s panel. -/
def dwTrip (k : Fin k0_t1_loop.trips) (col : Vec F S1024x128 .bf16) (xd : Vec F S128x4096 .bf16) (w : Vec F S1024x4096 .f32) : Vec F S1024x4096 .f32 :=
  VecWindow.put w (k0_off2 k) S1024x512.size (k0_pay3 col (VecWindow.window xd (k0_off4 k) S128x512.size (k0_off4_inb k)))

/-- What trip `k` leaves in the accumulator: the block times the weights' panel, added to the panel's columns. -/
def accTrip (k : Fin k0_t1_loop.trips) (row : Vec F S128x1024 .bf16) (wc : Vec F S1024x4096 .fp8e4m3) (ws : Vec F S32x4096 .f32)
    (acc : Vec F S128x4096 .f32) : Vec F S128x4096 .f32 :=
  VecWindow.put acc (k0_off4 k) S128x512.size
    (k0_pay2 (VecWindow.window wc (k0_off2 k) S1024x512.size (k0_off2_inb k)) (VecWindow.window ws (k0_off3 k) S32x512.size (k0_off3_inb k))
      (VecWindow.window acc (k0_off4 k) S128x512.size (k0_off4_inb k)) row)

/-- The weight gradient's block after the first `n` trips. -/
def dwLoop (col : Vec F S1024x128 .bf16) (xd : Vec F S128x4096 .bf16) (w : Vec F S1024x4096 .f32) : ℕ → Vec F S1024x4096 .f32
  | 0 => w
  | n + 1 => if h : n < k0_t1_loop.trips then dwTrip ⟨n, h⟩ col xd (dwLoop col xd w n) else dwLoop col xd w n

/-- The accumulator after the first `n` trips. -/
def accLoop (row : Vec F S128x1024 .bf16) (wc : Vec F S1024x4096 .fp8e4m3) (ws : Vec F S32x4096 .f32) (acc : Vec F S128x4096 .f32) : ℕ → Vec F S128x4096 .f32
  | 0 => acc
  | n + 1 => if h : n < k0_t1_loop.trips then accTrip ⟨n, h⟩ row wc ws (accLoop row wc ws acc n) else accLoop row wc ws acc n

/-! ## Of a whole point -/

/-- The weight gradient's block: all its panels are stored, so what the block held before is of no account. -/
def dwPoint (col : Vec F S1024x128 .bf16) (xd : Vec F S128x4096 .bf16) : Vec F S1024x4096 .f32 :=
  dwLoop col xd (fun _ => Scalar.ofBits .f32 0x00000000#32) k0_t1_loop.trips

/-- The accumulator a point leaves, from the one it finds. -/
def accPoint (x0 : Vec F S128x1024 .bf16) (x3 : Vec F S1024x4096 .fp8e4m3) (x4 : Vec F S32x4096 .i8) (acc : Vec F S128x4096 .f32) : Vec F S128x4096 .f32 :=
  accLoop (rowDeq x0) x3 (wScale x4) acc k0_t1_loop.trips

/-- The row-scale scratch a point leaves, from the one it finds: the point's 32 rows are replaced. -/
def scalePoint (i : grid0.Coords) (x0 : Vec F S128x1024 .bf16) (s : Vec F S448x128 .i32) : Vec F S448x128 .i32 :=
  VecWindow.put s (k0_off1 i) S32x128.size (rowScale x0)

end Cert.KernelIdeal.Run

end
-- ==== Proof.Run.Cover.lean ====
/-
  What the loop leaves entry by entry: the panel that holds a column is written by one trip, so an entry of the result
  is that trip's payload at the entry's place in the panel, whatever the buffer held before.
-/
module

public import proofs.«01_k».proof.Proof.Run.Values

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen

variable {F : FTy → Type} [FloatOps F]

/-- An overwritten block read inside the window: the payload at the local index. -/
theorem put_at {s : Shape} {α : Type} (x : s.Idx → α) (off size : Fin s.rank → ℕ) (w : ((a : Fin s.rank) → Fin (size a)) → α) (y : s.Idx)
    (z : (a : Fin s.rank) → Fin (size a)) (hz : ∀ a, (y a).val = off a + (z a).val) : VecWindow.put x off size w y = w z := by
  have h : ∀ a, off a ≤ (y a).val ∧ (y a).val < off a + size a := fun a => by
    have := hz a; have := (z a).isLt; omega
  unfold VecWindow.put
  rw [dif_pos h]
  congr 1
  funext a
  apply Fin.ext
  rw [Rect.unitLocal_val]
  have := hz a
  omega

/-- An overwritten block read outside the window: the old contents. -/
theorem put_off {s : Shape} {α : Type} (x : s.Idx → α) (off size : Fin s.rank → ℕ) (w : ((a : Fin s.rank) → Fin (size a)) → α) (y : s.Idx)
    (a : Fin s.rank) (ha : (y a).val < off a ∨ off a + size a ≤ (y a).val) : VecWindow.put x off size w y = x y := by
  unfold VecWindow.put
  rw [dif_neg (fun h => by have := h a; omega)]

theorem dwLoop_done (col : Vec F S1024x128 .bf16) (xd : Vec F S128x4096 .bf16) (w : Vec F S1024x4096 .f32) (y : S1024x4096.Idx) (k : Fin k0_t1_loop.trips)
    (z : S1024x512.Idx) (h0 : (y 0).val = (z 0).val) (h1 : (y 1).val = 512 * k.val + (z 1).val) : ∀ n : ℕ, k.val < n → n ≤ k0_t1_loop.trips →
    dwLoop col xd w n y = k0_pay3 col (VecWindow.window xd (k0_off4 k) S128x512.size (k0_off4_inb k)) z
  | 0, hk, _ => absurd hk (Nat.not_lt_zero _)
  | n + 1, hk, hn => by
    have hz1 : (z 1).val < 512 := (z 1).isLt
    rw [dwLoop, dif_pos (show n < k0_t1_loop.trips from hn), dwTrip]
    by_cases e : k.val = n
    · obtain rfl : k = ⟨n, hn⟩ := Fin.ext e
      refine put_at _ _ _ _ y z fun a => ?_
      rw [k0_off2_eq]
      match a with
      | ⟨0, _⟩ => exact h0.trans (Nat.zero_add _).symm
      | ⟨1, _⟩ => exact h1
    · refine (put_off _ _ _ _ y 1 (Or.inl ?_)).trans (dwLoop_done col xd w y k z h0 h1 n (by omega) (by omega))
      rw [k0_off2_eq]
      show (y 1).val < 512 * n
      omega

/-- The weight gradient's block does not depend on what its buffer held. -/
theorem dwLoop_eq_dwPoint (col : Vec F S1024x128 .bf16) (xd : Vec F S128x4096 .bf16) (w : Vec F S1024x4096 .f32) :
    dwLoop col xd w k0_t1_loop.trips = dwPoint col xd := by
  funext y
  have hy : (y 1).val < 4096 := (y 1).isLt
  have ht : k0_t1_loop.trips = 8 := by decide +kernel
  let k : Fin k0_t1_loop.trips := ⟨(y 1).val / 512, by omega⟩
  let z : S1024x512.Idx := fun a => match a with
    | ⟨0, _⟩ => ⟨(y 0).val, (y 0).isLt⟩
    | ⟨1, _⟩ => ⟨(y 1).val % 512, Nat.mod_lt _ (by decide)⟩
  have h1 : (y 1).val = 512 * k.val + (z 1).val := (Nat.div_add_mod _ _).symm
  rw [dwPoint, dwLoop_done col xd w y k z rfl h1 _ k.isLt le_rfl, dwLoop_done col xd _ y k z rfl h1 _ k.isLt le_rfl]

theorem accLoop_rest (row : Vec F S128x1024 .bf16) (wc : Vec F S1024x4096 .fp8e4m3) (ws : Vec F S32x4096 .f32) (acc : Vec F S128x4096 .f32) (y : S128x4096.Idx) :
    ∀ n : ℕ, n ≤ k0_t1_loop.trips → 512 * n ≤ (y 1).val → accLoop row wc ws acc n y = acc y
  | 0, _, _ => rfl
  | n + 1, hn, hy => by
    rw [accLoop, dif_pos (show n < k0_t1_loop.trips from hn), accTrip]
    refine (put_off _ _ _ _ y 1 (Or.inr ?_)).trans (accLoop_rest row wc ws acc y n (by omega) (by omega))
    rw [k0_off4_eq]
    show 512 * n + 512 ≤ (y 1).val
    omega

theorem accLoop_done (row : Vec F S128x1024 .bf16) (wc : Vec F S1024x4096 .fp8e4m3) (ws : Vec F S32x4096 .f32) (acc : Vec F S128x4096 .f32) (y : S128x4096.Idx)
    (k : Fin k0_t1_loop.trips) (z : S128x512.Idx) (h0 : (y 0).val = (z 0).val) (h1 : (y 1).val = 512 * k.val + (z 1).val) : ∀ n : ℕ, k.val < n → n ≤ k0_t1_loop.trips →
    accLoop row wc ws acc n y = k0_pay2 (VecWindow.window wc (k0_off2 k) S1024x512.size (k0_off2_inb k)) (VecWindow.window ws (k0_off3 k) S32x512.size (k0_off3_inb k))
      (VecWindow.window acc (k0_off4 k) S128x512.size (k0_off4_inb k)) row z
  | 0, hk, _ => absurd hk (Nat.not_lt_zero _)
  | n + 1, hk, hn => by
    have hz1 : (z 1).val < 512 := (z 1).isLt
    rw [accLoop, dif_pos (show n < k0_t1_loop.trips from hn), accTrip]
    by_cases e : k.val = n
    · obtain rfl : k = ⟨n, hn⟩ := Fin.ext e
      have hw : VecWindow.window (accLoop row wc ws acc n) (k0_off4 ⟨n, hn⟩) S128x512.size (k0_off4_inb ⟨n, hn⟩)
          = VecWindow.window acc (k0_off4 ⟨n, hn⟩) S128x512.size (k0_off4_inb ⟨n, hn⟩) := by
        funext u
        refine accLoop_rest row wc ws acc _ n (by omega) ?_
        have eo : k0_off4 ⟨n, hn⟩ 1 = 512 * n := by rw [k0_off4_eq]; rfl
        show 512 * n ≤ k0_off4 ⟨n, hn⟩ 1 + 1 * (u 1).val
        omega
      rw [hw]
      refine put_at _ _ _ _ y z fun a => ?_
      rw [k0_off4_eq]
      match a with
      | ⟨0, _⟩ => exact h0.trans (Nat.zero_add _).symm
      | ⟨1, _⟩ => exact h1
    · refine (put_off _ _ _ _ y 1 (Or.inl ?_)).trans (accLoop_done row wc ws acc y k z h0 h1 n (by omega) (by omega))
      rw [k0_off4_eq]
      show (y 1).val < 512 * n
      omega

/-- The dequantised activations do not depend on what the scratch held: the four stores cover it. -/
theorem xDeq_indep (x1 : Vec F S128x4096 .fp8e4m3) (x2 : Vec F S4x4096 .i8) (d d' : Vec F S128x4096 .bf16) : xDeq x1 x2 d = xDeq x1 x2 d' := by
  funext y
  have hy : (y 0).val < 128 := (y 0).isLt
  have hy1 : (y 1).val < 4096 := (y 1).isLt
  unfold xDeq VecWindow.put
  by_cases h3 : 96 ≤ (y 0).val
  · have h : ∀ a : Fin S128x4096.rank, (![96, 0] : Fin 2 → ℕ) a ≤ (y a).val ∧ (y a).val < (![96, 0] : Fin 2 → ℕ) a + S32x4096.size a := fun a => by
      match a with
      | ⟨0, _⟩ => exact ⟨h3, hy⟩
      | ⟨1, _⟩ => exact ⟨Nat.zero_le _, by show (y 1).val < 0 + 4096; omega⟩
    rw [dif_pos h, dif_pos h]
  · by_cases h2 : 64 ≤ (y 0).val
    · have h : ∀ a : Fin S128x4096.rank, (![64, 0] : Fin 2 → ℕ) a ≤ (y a).val ∧ (y a).val < (![64, 0] : Fin 2 → ℕ) a + S32x4096.size a := fun a => by
        match a with
        | ⟨0, _⟩ => exact ⟨h2, by show (y 0).val < 64 + 32; omega⟩
        | ⟨1, _⟩ => exact ⟨Nat.zero_le _, by show (y 1).val < 0 + 4096; omega⟩
      rw [dif_pos h, dif_pos h]
    · by_cases h1 : 32 ≤ (y 0).val
      · have h : ∀ a : Fin S128x4096.rank, (![32, 0] : Fin 2 → ℕ) a ≤ (y a).val ∧ (y a).val < (![32, 0] : Fin 2 → ℕ) a + S32x4096.size a := fun a => by
          match a with
          | ⟨0, _⟩ => exact ⟨h1, by show (y 0).val < 32 + 32; omega⟩
          | ⟨1, _⟩ => exact ⟨Nat.zero_le _, by show (y 1).val < 0 + 4096; omega⟩
        rw [dif_pos h, dif_pos h]
      · have h : ∀ a : Fin S128x4096.rank, (![0, 0] : Fin 2 → ℕ) a ≤ (y a).val ∧ (y a).val < (![0, 0] : Fin 2 → ℕ) a + S32x4096.size a := fun a => by
          match a with
          | ⟨0, _⟩ => exact ⟨Nat.zero_le _, by show (y 0).val < 0 + 32; omega⟩
          | ⟨1, _⟩ => exact ⟨Nat.zero_le _, by show (y 1).val < 0 + 4096; omega⟩
        rw [dif_pos h, dif_pos h]

/-- The four stores of scaled activations, read back. -/
theorem xDeq_read (v : View sig .tc .vmem S128x4096 .bf16) (f : v.ty.Contents (Elt F)) (x1 : Vec F S128x4096 .fp8e4m3) (x2 : Vec F S4x4096 .i8) :
    v.read (Elt F) (v.writes (Elt F) f
      [⟨Rect.unit ![96, 0] S32x4096.size inb_S128x4096_S32x4096_96_0, k0_pay12 (k0_pay7 x2) (xRows 96 inb_S128x4096_S32x4096_96_0 x1)⟩,
       ⟨Rect.unit ![64, 0] S32x4096.size inb_S128x4096_S32x4096_64_0, k0_pay11 (k0_pay10 x2 (xRows 64 inb_S128x4096_S32x4096_64_0 x1))⟩,
       ⟨Rect.unit ![32, 0] S32x4096.size inb_S128x4096_S32x4096_32_0, k0_pay9 x2 (xRows 32 inb_S128x4096_S32x4096_32_0 x1)⟩,
       ⟨Rect.unit ![0, 0] S32x4096.size inb_S128x4096_S32x4096_0_0, k0_pay8 x2 (xRows 0 inb_S128x4096_S32x4096_0_0 x1)⟩]) = xDeq0 x1 x2 := by
  refine Eq.trans ?_ (xDeq_indep x1 x2 (v.read (Elt F) f) _)
  unfold xDeq
  refine (View.read_writes_cons_put _ _ _ _ _ rfl).trans (congrArg (fun u : S128x4096.Idx → Elt F .bf16 => VecWindow.put (s := S128x4096) u ![96, 0] S32x4096.size (k0_pay12 (k0_pay7 x2) (xRows 96 inb_S128x4096_S32x4096_96_0 x1))) ?_)
  refine (View.read_writes_cons_put _ _ _ _ _ rfl).trans (congrArg (fun u : S128x4096.Idx → Elt F .bf16 => VecWindow.put (s := S128x4096) u ![64, 0] S32x4096.size (k0_pay11 (k0_pay10 x2 (xRows 64 inb_S128x4096_S32x4096_64_0 x1)))) ?_)
  refine (View.read_writes_cons_put _ _ _ _ _ rfl).trans (congrArg (fun u : S128x4096.Idx → Elt F .bf16 => VecWindow.put (s := S128x4096) u ![32, 0] S32x4096.size (k0_pay9 x2 (xRows 32 inb_S128x4096_S32x4096_32_0 x1))) ?_)
  exact View.read_writes_cons_put _ _ _ _ _ rfl

end Cert.KernelIdeal.Run

end
-- ==== Proof.Run.Fold.lean ====
/-
  What the buffers carried from point to point hold: the accumulator (`accAt`), the scaled activations (`xdAll`), and
  the scale scratch (`scaleAt`), whose contents before the first point are not known and which the fourteen points fill.
-/
module

public import proofs.«01_k».proof.Proof.Gen.KernelIdeal.Frame
public import proofs.«01_k».proof.Proof.Run.Cover

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Point `n` of the grid. -/
abbrev pt (n : ℕ) (h : n < cfg0.N) : Fin cfg0.N := ⟨n, h⟩

theorem pos_N : 0 < cfg0.N := by decide +kernel

/-- The scaled activations, as the first point leaves them. -/
def xdAll (c : Dev nD) : Vec F S128x4096 .bf16 :=
  xDeq0 (iblk m c 1 (pt 0 pos_N)) (iblk m c 2 (pt 0 pos_N))

/-- The accumulator after the first `n` points. -/
def accAt (c : Dev nD) : (n : ℕ) → n ≤ cfg0.N → Vec F S128x4096 .f32
  | 0, _ => k0_pay6
  | n + 1, h => accPoint (iblk m c 0 (pt n h)) (iblk m c 3 (pt n h)) (iblk m c 4 (pt n h)) (accAt c n (Nat.le_of_succ_le h))

/-- The scale scratch after the first `n` points, from `d` before them. -/
def scaleAt (c : Dev nD) (d : Vec F S448x128 .i32) : (n : ℕ) → n ≤ cfg0.N → Vec F S448x128 .i32
  | 0, _ => d
  | n + 1, h => scalePoint (grid0.coords (pt n h)) (iblk m c 0 (pt n h)) (scaleAt c d n (Nat.le_of_succ_le h))

theorem coords_val : ∀ t : Fin cfg0.N, (grid0.coords t 0).val = t.val := by decide +kernel

/-- An entry of the scale scratch after `n` points: what the point of its 32 rows stored. -/
theorem scaleAt_done (c : Dev nD) (d : Vec F S448x128 .i32) (y : S448x128.Idx) (k : ℕ) (hk : k < cfg0.N) (z : S32x128.Idx)
    (h0 : (y 0).val = 32 * k + (z 0).val) (h1 : (y 1).val = (z 1).val) : ∀ (n : ℕ) (h : n ≤ cfg0.N), k < n →
    scaleAt m c d n h y = rowScale (iblk m c 0 (pt k hk)) z
  | 0, _, hn => absurd hn (Nat.not_lt_zero _)
  | n + 1, h, hn => by
    have hz0 : (z 0).val < 32 := (z 0).isLt
    rw [scaleAt, scalePoint]
    by_cases e : k = n
    · subst e
      refine put_at _ _ _ _ y z fun a => ?_
      rw [k0_off1_eq, coords_val]
      match a with
      | ⟨0, _⟩ => exact h0
      | ⟨1, _⟩ => exact h1.trans (Nat.zero_add _).symm
    · refine (put_off _ _ _ _ y 0 (Or.inl ?_)).trans (scaleAt_done c d y k hk z h0 h1 n (Nat.le_of_succ_le h) (by omega))
      rw [k0_off1_eq, coords_val]
      show (y 0).val < 32 * n
      omega

/-- After all the points what the scratch held before them is of no account. -/
theorem scaleAt_indep (c : Dev nD) (d d' : Vec F S448x128 .i32) (n : ℕ) (h : n ≤ cfg0.N) (hn : n = 14) : scaleAt m c d n h = scaleAt m c d' n h := by
  funext y
  have hy : (y 0).val < 448 := (y 0).isLt
  have hN : cfg0.N = 14 := N_0
  let z : S32x128.Idx := fun a => match a with
    | ⟨0, _⟩ => ⟨(y 0).val % 32, Nat.mod_lt _ (by decide)⟩
    | ⟨1, _⟩ => ⟨(y 1).val, (y 1).isLt⟩
  have h0 : (y 0).val = 32 * ((y 0).val / 32) + (z 0).val := (Nat.div_add_mod _ _).symm
  rw [scaleAt_done m c d y ((y 0).val / 32) (by omega) z h0 rfl n h (by omega), scaleAt_done m c d' y ((y 0).val / 32) (by omega) z h0 rfl n h (by omega)]

end Cert.KernelIdeal.Run

end
-- ==== Proof.Run.Loop.lean ====
/-
  The loop over 512-column panels, as values: what the weight gradient's block and the accumulator hold after `n` trips
  is `dwLoop` and `accLoop` of what they held before it.
-/
module

public import proofs.«01_k».proof.Proof.Run.Values

@[expose] public section

set_option maxRecDepth 16384

noncomputable section

namespace Cert.KernelIdeal.Run

open Idealize.ShloMosaic Idealize.ShloMosaic.TcCoe Idealize.ShloMosaic.Tactic Idealize.SL.Sem
open Cert.KernelIdeal Cert.KernelIdeal.Gen

variable {F : FTy → Type} [FloatOps F]
variable (𝒱 : Variants) (c : Dev nD) (bd : Option 𝒱.V) (i : grid0.Coords) (arg1 : Memref sig .tc .vmem S128x1024 .bf16) (harg1 : arg1.IsWhole) (arg2 : Memref sig .tc .vmem S128x4096 .fp8e4m3) (harg2 : arg2.IsWhole)
  (arg3 : Memref sig .tc .vmem S4x4096 .i8) (harg3 : arg3.IsWhole) (arg4 : Memref sig .tc .vmem S1024x4096 .fp8e4m3) (harg4 : arg4.IsWhole)
  (arg5 : Memref sig .tc .vmem S32x4096 .i8) (harg5 : arg5.IsWhole) (arg6 : Memref sig .tc .vmem S128x4096 .bf16) (harg6 : arg6.IsWhole)
  (arg7 : Memref sig .tc .vmem S1024x4096 .f32) (harg7 : arg7.IsWhole) (arg8 : Memref sig .tc .vmem S128x1024 .fp8e4m3) (harg8 : arg8.IsWhole)
  (arg9 : Memref sig .tc .vmem S128x448 .i8) (harg9 : arg9.IsWhole) (arg10 : Memref sig .tc .vmem S128x1024 .fp8e4m3) (harg10 : arg10.IsWhole)
  (arg11 : Memref sig .tc .vmem S4x1024 .i8) (harg11 : arg11.IsWhole) (arg12 : Memref sig .tc .vmem S128x4096 .f32) (harg12 : arg12.IsWhole)
  (arg13 : Memref sig .tc .vmem S128x4096 .bf16) (harg13 : arg13.IsWhole) (arg14 : Memref sig .tc .vmem S128x1024 .bf16) (harg14 : arg14.IsWhole)
  (arg15 : Memref sig .tc .vmem S1024x128 .bf16) (harg15 : arg15.IsWhole) (arg16 : Memref sig .tc .vmem S32x4096 .f32) (harg16 : arg16.IsWhole)
  (arg17 : Memref sig .tc .vmem S448x128 .i32) (harg17 : arg17.IsWhole)
  (X4 : BufTy.Contents (Elt F) arg4.view.ty) (X13 : BufTy.Contents (Elt F) arg13.view.ty) (X14 : BufTy.Contents (Elt F) arg14.view.ty)
  (X15 : BufTy.Contents (Elt F) arg15.view.ty) (X16 : BufTy.Contents (Elt F) arg16.view.ty)

/-- The one store of trip `k` into the weight gradient's block. -/
theorem trip_dw (k : Fin k0_t1_loop.trips) (f7 : BufTy.Contents (Elt F) arg7.view.ty) (f12 : BufTy.Contents (Elt F) arg12.view.ty) :
    arg7.view.read (Elt F) (arg7.view.writes (Elt F) f7
      ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X13 X14 X15 X16 k).1 f7 f12))
      = dwTrip k (arg15.view.read (Elt F) X15) (arg13.view.read (Elt F) X13) (arg7.view.read (Elt F) f7) := by
  unfold trip_k0_t1 dwTrip
  dsimp only
  refine (View.read_writes_cons_put _ _ _ _ _ rfl).trans ?_
  have e := View.readAt_full (Val := Elt F) arg15.view X15 inb_S1024x128_S1024x128_0_0
  exact congrArg (fun z => VecWindow.put (arg7.view.read (Elt F) f7) (k0_off2 k) S1024x512.size (k0_pay3 z
    (VecWindow.window (arg13.view.read (Elt F) X13) (k0_off4 k) S128x512.size (k0_off4_inb k)))) e

/-- The one store of trip `k` into the accumulator. -/
theorem trip_acc (k : Fin k0_t1_loop.trips) (f7 : BufTy.Contents (Elt F) arg7.view.ty) (f12 : BufTy.Contents (Elt F) arg12.view.ty) :
    arg12.view.read (Elt F) (arg12.view.writes (Elt F) f12
      ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X13 X14 X15 X16 k).2.1 f7 f12))
      = accTrip k (arg14.view.read (Elt F) X14) (arg4.view.read (Elt F) X4) (arg16.view.read (Elt F) X16) (arg12.view.read (Elt F) f12) := by
  unfold trip_k0_t1 accTrip
  dsimp only
  refine (View.read_writes_cons_put _ _ _ _ _ rfl).trans ?_
  have e := View.readAt_full (Val := Elt F) arg14.view X14 inb_S128x1024_S128x1024_0_0
  exact congrArg (fun z => VecWindow.put (arg12.view.read (Elt F) f12) (k0_off4 k) S128x512.size
    (k0_pay2 (VecWindow.window (arg4.view.read (Elt F) X4) (k0_off2 k) S1024x512.size (k0_off2_inb k))
      (VecWindow.window (arg16.view.read (Elt F) X16) (k0_off3 k) S32x512.size (k0_off3_inb k))
      (VecWindow.window (arg12.view.read (Elt F) f12) (k0_off4 k) S128x512.size (k0_off4_inb k)) z)) e

/-- After `n` trips the weight gradient's block and the accumulator hold `dwLoop` and `accLoop` at `n`. -/
theorem loop_reads (G7 : BufTy.Contents (Elt F) arg7.view.ty) (G12 : BufTy.Contents (Elt F) arg12.view.ty) : ∀ n : ℕ,
    arg7.view.read (Elt F) (arg7.view.writes (Elt F) G7
        (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X13 X14 X15 X16 G7 G12 n).1)
      = dwLoop (arg15.view.read (Elt F) X15) (arg13.view.read (Elt F) X13) (arg7.view.read (Elt F) G7) n
    ∧ arg12.view.read (Elt F) (arg12.view.writes (Elt F) G12
        (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X4 X13 X14 X15 X16 G7 G12 n).2)
      = accLoop (arg14.view.read (Elt F) X14) (arg4.view.read (Elt F) X4) (arg16.view.read (Elt F) X16) (arg12.view.read (Elt F) G12) n
  | 0 => ⟨rfl, rfl⟩
  | n + 1 => by
    have ih := loop_reads G7 G12 n
    rw [pb_k0_t1.eq_2, dwLoop, accLoop]
    unfold pb_k0_t1Step
    by_cases h : n < k0_t1_loop.trips
    · rw [dif_pos h, dif_pos h, dif_pos h, ← ih.1, ← ih.2]
      constructor
      · rw [View.writes_append, trip_dw]
      · rw [View.writes_append, trip_acc]
    · rw [dif_neg h, dif_neg h, dif_neg h]
      exact ih

end Cert.KernelIdeal.Run

end
-- ==== Proof.Run.RunA.lean ====
/-
  What a point of the grid does, the first: the body run at given contents leaves the values of `Run.Values`.
-/
module

public import proofs.«01_k».proof.Proof.Run.Base
public import proofs.«01_k».proof.Proof.Run.Loop
public import proofs.«01_k».proof.Proof.Run.Cover

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .vmem S128x1024 .bf16) (harg1 : arg1.IsWhole) (arg2 : Memref sig .tc .vmem S128x4096 .fp8e4m3) (harg2 : arg2.IsWhole)
  (arg3 : Memref sig .tc .vmem S4x4096 .i8) (harg3 : arg3.IsWhole) (arg4 : Memref sig .tc .vmem S1024x4096 .fp8e4m3) (harg4 : arg4.IsWhole)
  (arg5 : Memref sig .tc .vmem S32x4096 .i8) (harg5 : arg5.IsWhole) (arg6 : Memref sig .tc .vmem S128x4096 .bf16) (harg6 : arg6.IsWhole)
  (arg7 : Memref sig .tc .vmem S1024x4096 .f32) (harg7 : arg7.IsWhole) (arg8 : Memref sig .tc .vmem S128x1024 .fp8e4m3) (harg8 : arg8.IsWhole)
  (arg9 : Memref sig .tc .vmem S128x448 .i8) (harg9 : arg9.IsWhole) (arg10 : Memref sig .tc .vmem S128x1024 .fp8e4m3) (harg10 : arg10.IsWhole)
  (arg11 : Memref sig .tc .vmem S4x1024 .i8) (harg11 : arg11.IsWhole) (arg12 : Memref sig .tc .vmem S128x4096 .f32) (harg12 : arg12.IsWhole)
  (arg13 : Memref sig .tc .vmem S128x4096 .bf16) (harg13 : arg13.IsWhole) (arg14 : Memref sig .tc .vmem S128x1024 .bf16) (harg14 : arg14.IsWhole)
  (arg15 : Memref sig .tc .vmem S1024x128 .bf16) (harg15 : arg15.IsWhole) (arg16 : Memref sig .tc .vmem S32x4096 .f32) (harg16 : arg16.IsWhole)
  (arg17 : Memref sig .tc .vmem S448x128 .i32) (harg17 : arg17.IsWhole)

set_option maxHeartbeats 20000000 in
/-- The first point. -/
theorem run_A (hc0 : cond0_0 i) (hc1 : ¬cond0_1 i)
    (x0 : Vec F S128x1024 .bf16) (x1 : Vec F S128x4096 .fp8e4m3) (x2 : Vec F S4x4096 .i8) (x3 : Vec F S1024x4096 .fp8e4m3) (x4 : Vec F S32x4096 .i8)
    (xi5 : Vec F S128x4096 .bf16) (xi8 : Vec F S128x448 .i8) (xs5 : Vec F S448x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare xi5 ∗ (∃ d, owns (c : Thread nD τ) arg7 fullShare d) ∗ (∃ d, owns (c : Thread nD τ) arg8 fullShare d)
        ∗ owns (c : Thread nD τ) arg9 fullShare xi8 ∗ (∃ d, owns (c : Thread nD τ) arg10 fullShare d) ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare xi5 ∗ owns (c : Thread nD τ) arg7 fullShare (dwPoint (colDeq x0) (xDeq0 x1 x2)) ∗ owns (c : Thread nD τ) arg8 fullShare (rowCode x0)
          ∗ owns (c : Thread nD τ) arg9 fullShare xi8 ∗ owns (c : Thread nD τ) arg10 fullShare (colCode x0) ∗ owns (c : Thread nD τ) arg11 fullShare (colScale x0) ∗ owns (c : Thread nD τ) arg12 fullShare (accPoint x0 x3 x4 k0_pay6)
          ∗ owns (c : Thread nD τ) arg13 fullShare (xDeq0 x1 x2) ∗ (∃ d, owns (c : Thread nD τ) arg14 fullShare d) ∗ (∃ d, owns (c : Thread nD τ) arg15 fullShare d) ∗ (∃ d, owns (c : Thread nD τ) arg16 fullShare d)
          ∗ owns (c : Thread nD τ) arg17 fullShare (scalePoint i x0 xs5)) -∗ K ⟨⟩))
      ⊢ wp frame (wpE (defs₀ (F := F)) Variants.none c none) E (cc0_mxfp8_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mxfp8_linear_bwd_eq_skeleton]; unfold cc0_mxfp8_linear_bwd_skel
  simp only [k0_part2_eq_skeleton, k0_part1_eq_skeleton, k0_part3_eq_skeleton, k0_part4_eq_skeleton, k0_part5_eq_skeleton, k0_part6_eq_skeleton,
    k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg9.eq_unread hf9
  have hr3 := (View.readAt_full (Val := Elt F) arg3.view (harg3.unread x2) inb_S4x4096_S4x4096_0_0).trans hf3
  have hr2_0 : View.readAt (Elt F) arg2.view (Rect.unit (s := S128x4096) ![0, 0] S32x4096.size inb_S128x4096_S32x4096_0_0).toLoadRect (harg2.unread x1) = xRows 0 inb_S128x4096_S32x4096_0_0 x1 :=
    congrArg (xRows 0 inb_S128x4096_S32x4096_0_0) hf2
  have hr2_32 : View.readAt (Elt F) arg2.view (Rect.unit (s := S128x4096) ![32, 0] S32x4096.size inb_S128x4096_S32x4096_32_0).toLoadRect (harg2.unread x1) = xRows 32 inb_S128x4096_S32x4096_32_0 x1 :=
    congrArg (xRows 32 inb_S128x4096_S32x4096_32_0) hf2
  have hr2_64 : View.readAt (Elt F) arg2.view (Rect.unit (s := S128x4096) ![64, 0] S32x4096.size inb_S128x4096_S32x4096_64_0).toLoadRect (harg2.unread x1) = xRows 64 inb_S128x4096_S32x4096_64_0 x1 :=
    congrArg (xRows 64 inb_S128x4096_S32x4096_64_0) hf2
  have hr2_96 : View.readAt (Elt F) arg2.view (Rect.unit (s := S128x4096) ![96, 0] S32x4096.size inb_S128x4096_S32x4096_96_0).toLoadRect (harg2.unread x1) = xRows 96 inb_S128x4096_S32x4096_96_0 x1 :=
    congrArg (xRows 96 inb_S128x4096_S32x4096_96_0) hf2
  obtain rfl := harg17.eq_unread hf17
  have hr1 := (View.readAt_full (Val := Elt F) arg1.view (harg1.unread x0) inb_S128x1024_S128x1024_0_0).trans hf1
  have hr5 := (View.readAt_full (Val := Elt F) arg5.view (harg5.unread x4) inb_S32x4096_S32x4096_0_0).trans hf5

  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (loop_reads _ _ _ _ _ _ _ _ _ _ _ _ _ _ _ _ _ _ _ _ _ _ _ _ _ _ _ _ _ _ _ _ _ _ _ _ _ _ _ _ _ _ _ _ _ _).1.trans ((dwLoop_eq_dwPoint _ _ _).trans ?_)
    sl_unfold_run_names
    exact congrArg₂ dwPoint (View.read_writes_full _ _ _ _ _)
      (xDeq_read arg13.view _ x1 x2)
  isplitl [H8]
  · iexists _; isplitr; swap; · iexact H8
    ipureintro
    sl_unfold_run_names
    exact (View.read_writes_full _ _ _ _ _)
  isplitl [H9]
  · iexists _; isplitr; swap; · iexact H9
    ipureintro
    exact harg9.read_unread _
  isplitl [H10]
  · iexists _; isplitr; swap; · iexact H10
    ipureintro
    sl_unfold_run_names
    exact (View.read_writes_full _ _ _ _ _)
  isplitl [H11]
  · iexists _; isplitr; swap; · iexact H11
    ipureintro
    sl_unfold_run_names
    exact (View.read_writes_full _ _ _ _ _)
  isplitl [H12]
  · iexists _; isplitr; swap; · iexact H12
    ipureintro
    refine (congrArg (View.read (Elt F) arg12.view) (View.writes_append _ _ _ _)).trans ?_
    refine (loop_reads _ _ _ _ _ _ _ _ _ _ _ _ _ _ _ _ _ _ _ _ _ _ _ _ _ _ _ _ _ _ _ _ _ _ _ _ _ _ _ _ _ _ _ _ _ _).2.trans ?_
    sl_unfold_run_names
    refine (congrArg₂ (fun u v => accLoop _ u _ v k0_t1_loop.trips) hf4 (View.read_writes_full _ _ _ _ _)).trans ?_
    exact congrArg₂ (fun a b => accLoop a x3 b k0_pay6 k0_t1_loop.trips) (View.read_writes_full _ _ _ _ _) (View.read_writes_full _ _ _ _ _)
  isplitl [H13]
  · iexists _; isplitr; swap; · iexact H13
    ipureintro
    sl_unfold_run_names
    exact (xDeq_read arg13.view _ x1 x2)
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; isplitr; swap; · iexact H17
  ipureintro
  sl_unfold_run_names
  exact (View.read_writes_cons_put _ _ _ _ _ rfl).trans (show scalePoint i x0 (View.read (Elt F) arg17.view (harg17.unread xs5)) = scalePoint i x0 xs5 from congrArg (scalePoint i x0) hf17)

end Cert.KernelIdeal.Run

end
-- ==== Proof.Run.RunB.lean ====
/-
  What a point of the grid does, the points between the first and the last: the body run at given contents leaves the values of `Run.Values`.
-/
module

public import proofs.«01_k».proof.Proof.Run.Base
public import proofs.«01_k».proof.Proof.Run.Loop
public import proofs.«01_k».proof.Proof.Run.Cover

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .vmem S128x1024 .bf16) (harg1 : arg1.IsWhole) (arg2 : Memref sig .tc .vmem S128x4096 .fp8e4m3) (harg2 : arg2.IsWhole)
  (arg3 : Memref sig .tc .vmem S4x4096 .i8) (harg3 : arg3.IsWhole) (arg4 : Memref sig .tc .vmem S1024x4096 .fp8e4m3) (harg4 : arg4.IsWhole)
  (arg5 : Memref sig .tc .vmem S32x4096 .i8) (harg5 : arg5.IsWhole) (arg6 : Memref sig .tc .vmem S128x4096 .bf16) (harg6 : arg6.IsWhole)
  (arg7 : Memref sig .tc .vmem S1024x4096 .f32) (harg7 : arg7.IsWhole) (arg8 : Memref sig .tc .vmem S128x1024 .fp8e4m3) (harg8 : arg8.IsWhole)
  (arg9 : Memref sig .tc .vmem S128x448 .i8) (harg9 : arg9.IsWhole) (arg10 : Memref sig .tc .vmem S128x1024 .fp8e4m3) (harg10 : arg10.IsWhole)
  (arg11 : Memref sig .tc .vmem S4x1024 .i8) (harg11 : arg11.IsWhole) (arg12 : Memref sig .tc .vmem S128x4096 .f32) (harg12 : arg12.IsWhole)
  (arg13 : Memref sig .tc .vmem S128x4096 .bf16) (harg13 : arg13.IsWhole) (arg14 : Memref sig .tc .vmem S128x1024 .bf16) (harg14 : arg14.IsWhole)
  (arg15 : Memref sig .tc .vmem S1024x128 .bf16) (harg15 : arg15.IsWhole) (arg16 : Memref sig .tc .vmem S32x4096 .f32) (harg16 : arg16.IsWhole)
  (arg17 : Memref sig .tc .vmem S448x128 .i32) (harg17 : arg17.IsWhole)

set_option maxHeartbeats 8000000 in
/-- A point between the first and the last. -/
theorem run_B (hc0 : ¬cond0_0 i) (hc1 : ¬cond0_1 i)
    (x0 : Vec F S128x1024 .bf16) (x1 : Vec F S128x4096 .fp8e4m3) (x2 : Vec F S4x4096 .i8) (x3 : Vec F S1024x4096 .fp8e4m3) (x4 : Vec F S32x4096 .i8)
    (xi5 : Vec F S128x4096 .bf16) (xi8 : Vec F S128x448 .i8) (xs0 : Vec F S128x4096 .f32) (xs1 : Vec F S128x4096 .bf16) (xs5 : Vec F S448x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare xi5 ∗ (∃ d, owns (c : Thread nD τ) arg7 fullShare d) ∗ (∃ d, owns (c : Thread nD τ) arg8 fullShare d)
        ∗ owns (c : Thread nD τ) arg9 fullShare xi8 ∗ (∃ d, owns (c : Thread nD τ) arg10 fullShare d) ∗ (∃ d, owns (c : Thread nD τ) arg11 fullShare d) ∗ owns (c : Thread nD τ) arg12 fullShare xs0
        ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare xi5 ∗ owns (c : Thread nD τ) arg7 fullShare (dwPoint (colDeq x0) xs1) ∗ owns (c : Thread nD τ) arg8 fullShare (rowCode x0)
          ∗ owns (c : Thread nD τ) arg9 fullShare xi8 ∗ owns (c : Thread nD τ) arg10 fullShare (colCode x0) ∗ owns (c : Thread nD τ) arg11 fullShare (colScale x0) ∗ owns (c : Thread nD τ) arg12 fullShare (accPoint x0 x3 x4 xs0)
          ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d)
          ∗ owns (c : Thread nD τ) arg17 fullShare (scalePoint i x0 xs5)) -∗ K ⟨⟩))
      ⊢ wp frame (wpE (defs₀ (F := F)) Variants.none c none) E (cc0_mxfp8_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mxfp8_linear_bwd_eq_skeleton]; unfold cc0_mxfp8_linear_bwd_skel
  simp only [k0_part2_eq_skeleton, k0_part1_eq_skeleton, k0_part3_eq_skeleton, k0_part4_eq_skeleton, k0_part5_eq_skeleton, k0_part6_eq_skeleton,
    k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg9.eq_unread hf9; obtain rfl := harg12.eq_unread hf12; obtain rfl := harg13.eq_unread hf13
  obtain rfl := harg17.eq_unread hf17
  have hr1 := (View.readAt_full (Val := Elt F) arg1.view (harg1.unread x0) inb_S128x1024_S128x1024_0_0).trans hf1
  have hr5 := (View.readAt_full (Val := Elt F) arg5.view (harg5.unread x4) inb_S32x4096_S32x4096_0_0).trans hf5

  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    exact harg6.read_unread _
  isplitl [H7]
  · iexists _; isplitr; swap; · iexact H7
    ipureintro
    refine (loop_reads _ _ _ _ _ _ _ _ _ _ _ _ _ _ _ _ _ _ _ _ _ _ _ _ _ _ _ _ _ _ _ _ _ _ _ _ _ _ _ _ _ _ _ _ _ _).1.trans ((dwLoop_eq_dwPoint _ _ _).trans ?_)
    sl_unfold_run_names
    exact congrArg₂ dwPoint (View.read_writes_full _ _ _ _ _) hf13
  isplitl [H8]
  · iexists _; isplitr; swap; · iexact H8
    ipureintro
    sl_unfold_run_names
    exact (View.read_writes_full _ _ _ _ _)
  isplitl [H9]
  · iexists _; isplitr; swap; · iexact H9
    ipureintro
    exact harg9.read_unread _
  isplitl [H10]
  · iexists _; isplitr; swap; · iexact H10
    ipureintro
    sl_unfold_run_names
    exact (View.read_writes_full _ _ _ _ _)
  isplitl [H11]
  · iexists _; isplitr; swap; · iexact H11
    ipureintro
    sl_unfold_run_names
    exact (View.read_writes_full _ _ _ _ _)
  isplitl [H12]
  · iexists _; isplitr; swap; · iexact H12
    ipureintro
    refine (loop_reads _ _ _ _ _ _ _ _ _ _ _ _ _ _ _ _ _ _ _ _ _ _ _ _ _ _ _ _ _ _ _ _ _ _ _ _ _ _ _ _ _ _ _ _ _ _).2.trans ?_
    sl_unfold_run_names
    refine (congrArg₂ (fun u v => accLoop _ u _ v k0_t1_loop.trips) hf4 hf12).trans ?_
    exact congrArg₂ (fun a b => accLoop a x3 b xs0 k0_t1_loop.trips) (View.read_writes_full _ _ _ _ _) (View.read_writes_full _ _ _ _ _)
  isplitl [H13]
  · iexists _; isplitr; swap; · iexact H13
    ipureintro
    exact harg13.read_unread _
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; isplitr; swap; · iexact H17
  ipureintro
  sl_unfold_run_names
  exact (View.read_writes_cons_put _ _ _ _ _ rfl).trans (show scalePoint i x0 (View.read (Elt F) arg17.view (harg17.unread xs5)) = scalePoint i x0 xs5 from congrArg (scalePoint i x0) hf17)

end Cert.KernelIdeal.Run

end
-- ==== Proof.Run.RunC.lean ====
/-
  What a point of the grid does, the last: the body run at given contents leaves the values of `Run.Values`.
-/
module

public import proofs.«01_k».proof.Proof.Run.Base
public import proofs.«01_k».proof.Proof.Run.Loop
public import proofs.«01_k».proof.Proof.Run.Cover

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords) (arg1 : Memref sig .tc .vmem S128x1024 .bf16) (harg1 : arg1.IsWhole) (arg2 : Memref sig .tc .vmem S128x4096 .fp8e4m3) (harg2 : arg2.IsWhole)
  (arg3 : Memref sig .tc .vmem S4x4096 .i8) (harg3 : arg3.IsWhole) (arg4 : Memref sig .tc .vmem S1024x4096 .fp8e4m3) (harg4 : arg4.IsWhole)
  (arg5 : Memref sig .tc .vmem S32x4096 .i8) (harg5 : arg5.IsWhole) (arg6 : Memref sig .tc .vmem S128x4096 .bf16) (harg6 : arg6.IsWhole)
  (arg7 : Memref sig .tc .vmem S1024x4096 .f32) (harg7 : arg7.IsWhole) (arg8 : Memref sig .tc .vmem S128x1024 .fp8e4m3) (harg8 : arg8.IsWhole)
  (arg9 : Memref sig .tc .vmem S128x448 .i8) (harg9 : arg9.IsWhole) (arg10 : Memref sig .tc .vmem S128x1024 .fp8e4m3) (harg10 : arg10.IsWhole)
  (arg11 : Memref sig .tc .vmem S4x1024 .i8) (harg11 : arg11.IsWhole) (arg12 : Memref sig .tc .vmem S128x4096 .f32) (harg12 : arg12.IsWhole)
  (arg13 : Memref sig .tc .vmem S128x4096 .bf16) (harg13 : arg13.IsWhole) (arg14 : Memref sig .tc .vmem S128x1024 .bf16) (harg14 : arg14.IsWhole)
  (arg15 : Memref sig .tc .vmem S1024x128 .bf16) (harg15 : arg15.IsWhole) (arg16 : Memref sig .tc .vmem S32x4096 .f32) (harg16 : arg16.IsWhole)
  (arg17 : Memref sig .tc .vmem S448x128 .i32) (harg17 : arg17.IsWhole)

set_option maxHeartbeats 8000000 in
/-- The last point. -/
theorem run_C (hc0 : ¬cond0_0 i) (hc1 : cond0_1 i)
    (x0 : Vec F S128x1024 .bf16) (x1 : Vec F S128x4096 .fp8e4m3) (x2 : Vec F S4x4096 .i8) (x3 : Vec F S1024x4096 .fp8e4m3) (x4 : Vec F S32x4096 .i8)
    (xs0 : Vec F S128x4096 .f32) (xs1 : Vec F S128x4096 .bf16) (xs5 : Vec F S448x128 .i32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
        ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d)
        ∗ owns (c : Thread nD τ) arg17 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare x4 ∗ owns (c : Thread nD τ) arg6 fullShare (k0_pay4 (accPoint x0 x3 x4 xs0)) ∗ owns (c : Thread nD τ) arg7 fullShare (dwPoint (colDeq x0) xs1) ∗ owns (c : Thread nD τ) arg8 fullShare (rowCode x0)
          ∗ owns (c : Thread nD τ) arg9 fullShare (k0_pay5 (scalePoint i x0 xs5)) ∗ owns (c : Thread nD τ) arg10 fullShare (colCode x0) ∗ owns (c : Thread nD τ) arg11 fullShare (colScale x0) ∗ owns (c : Thread nD τ) arg12 fullShare (accPoint x0 x3 x4 xs0)
          ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d)
          ∗ owns (c : Thread nD τ) arg17 fullShare (scalePoint i x0 xs5)) -∗ K ⟨⟩))
      ⊢ wp frame (wpE (defs₀ (F := F)) Variants.none c none) E (cc0_mxfp8_linear_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mxfp8_linear_bwd_eq_skeleton]; unfold cc0_mxfp8_linear_bwd_skel
  simp only [k0_part2_eq_skeleton, k0_part1_eq_skeleton, k0_part3_eq_skeleton, k0_part4_eq_skeleton, k0_part5_eq_skeleton, k0_part6_eq_skeleton,
    k0_part7_eq_skeleton, k0_part8_eq_skeleton, k0_part9_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5
  obtain rfl := harg12.eq_unread hf12; obtain rfl := harg13.eq_unread hf13
  obtain rfl := harg17.eq_unread hf17
  have hr1 := (View.readAt_full (Val := Elt F) arg1.view (harg1.unread x0) inb_S128x1024_S128x1024_0_0).trans hf1
  have hr5 := (View.readAt_full (Val := Elt F) arg5.view (harg5.unread x4) inb_S32x4096_S32x4096_0_0).trans hf5

  sl_exec (disch := first | sl_exact hc0 | sl_exact hc1)
  sl_step
  iapply Hk
  isplitl [H1]
  · iexists _; isplitr; swap; · iexact H1
    ipureintro
    exact harg1.read_unread _
  isplitl [H2]
  · iexists _; isplitr; swap; · iexact H2
    ipureintro
    exact harg2.read_unread _
  isplitl [H3]
  · iexists _; isplitr; swap; · iexact H3
    ipureintro
    exact harg3.read_unread _
  isplitl [H4]
  · iexists _; isplitr; swap; · iexact H4
    ipureintro
    exact harg4.read_unread _
  isplitl [H5]
  · iexists _; isplitr; swap; · iexact H5
    ipureintro
    exact harg5.read_unread _
  isplitl [H6]
  · iexists _; isplitr; swap; · iexact H6
    ipureintro
    sl_unfold_run_names
    refine (View.read_writes_full _ _ _ _ _).trans (congrArg k0_pay4 ((View.readAt_full _ _ _).trans ?_))
    refine (loop_reads _ _ _ _ _ _ _ _ _ _ _ _ _ _ _ _ _ _ _ _ _ _ _ _ _ _ _ _ _ _ _ _ _ _ _ _ _ _ _ _ _ _ _ _ _ _).2.trans ?_
    sl_unfold_run_names
    refine (congrArg₂ (fun u v => accLoop _ u _ v k0_t1_loop.trips) hf4 hf12).trans ?_
    exact congrArg₂ (fun a b => accLoop a x3 b xs0 k0_t1_loop.trips) (View.read_writes_full _ _ _ _ _) (View.read_writes_full _ _ _ _ _)
  isplitl [H7]
  · iexists _; isplitr; swap; · iexact H7
    ipureintro
    refine (loop_reads _ _ _ _ _ _ _ _ _ _ _ _ _ _ _ _ _ _ _ _ _ _ _ _ _ _ _ _ _ _ _ _ _ _ _ _ _ _ _ _ _ _ _ _ _ _).1.trans ((dwLoop_eq_dwPoint _ _ _).trans ?_)
    sl_unfold_run_names
    exact congrArg₂ dwPoint (View.read_writes_full _ _ _ _ _) hf13
  isplitl [H8]
  · iexists _; isplitr; swap; · iexact H8
    ipureintro
    sl_unfold_run_names
    exact (View.read_writes_full _ _ _ _ _)
  isplitl [H9]
  · iexists _; isplitr; swap; · iexact H9
    ipureintro
    sl_unfold_run_names
    refine (View.read_writes_full _ _ _ _ _).trans (congrArg k0_pay5 ((View.readAt_full _ _ _).trans ?_))
    exact (View.read_writes_cons_put _ _ _ _ _ rfl).trans (show scalePoint i x0 (View.read (Elt F) arg17.view (harg17.unread xs5)) = scalePoint i x0 xs5 from congrArg (scalePoint i x0) hf17)
  isplitl [H10]
  · iexists _; isplitr; swap; · iexact H10
    ipureintro
    sl_unfold_run_names
    exact (View.read_writes_full _ _ _ _ _)
  isplitl [H11]
  · iexists _; isplitr; swap; · iexact H11
    ipureintro
    sl_unfold_run_names
    exact (View.read_writes_full _ _ _ _ _)
  isplitl [H12]
  · iexists _; isplitr; swap; · iexact H12
    ipureintro
    refine (loop_reads _ _ _ _ _ _ _ _ _ _ _ _ _ _ _ _ _ _ _ _ _ _ _ _ _ _ _ _ _ _ _ _ _ _ _ _ _ _ _ _ _ _ _ _ _ _).2.trans ?_
    sl_unfold_run_names
    refine (congrArg₂ (fun u v => accLoop _ u _ v k0_t1_loop.trips) hf4 hf12).trans ?_
    exact congrArg₂ (fun a b => accLoop a x3 b xs0 k0_t1_loop.trips) (View.read_writes_full _ _ _ _ _) (View.read_writes_full _ _ _ _ _)
  isplitl [H13]
  · iexists _; isplitr; swap; · iexact H13
    ipureintro
    exact harg13.read_unread _
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _; isplitr; swap; · iexact H17
  ipureintro
  sl_unfold_run_names
  exact (View.read_writes_cons_put _ _ _ _ _ rfl).trans (show scalePoint i x0 (View.read (Elt F) arg17.view (harg17.unread xs5)) = scalePoint i x0 xs5 from congrArg (scalePoint i x0) hf17)

end Cert.KernelIdeal.Run

end
-- ==== Proof.Run.Frame.lean ====
/-
  The launch: the invariant carried from point to point, the body's obligation at each point, the run, and the frame.
-/
module

public import proofs.«01_k».proof.Proof.Run.Base
public import proofs.«01_k».proof.Proof.Run.Fold
public import proofs.«01_k».proof.Proof.Run.RunA
public import proofs.«01_k».proof.Proof.Run.RunB
public import proofs.«01_k».proof.Proof.Run.RunC
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: every scratch at anything before the first; afterwards the accumulator at `accAt`,
    the scaled activations at `xdAll`, and the scale scratch at `scaleAt` from some contents. -/
def PhiS (c : Dev nD) : (n : ℕ) → n ≤ cfg0.N → sProp 𝕄
  | 0, _ => Pipeline.ΦA spec0 c
  | n + 1, hn => iprop(iprop(owns (c : Thread nD τ) scM0_0 fullShare (accAt m c (n + 1) hn) ∗ owns (c : Thread nD τ) scM0_1 fullShare (xdAll m c) ∗ (∃ d, owns (c : Thread nD τ) scM0_2 fullShare d) ∗ (∃ d, owns (c : Thread nD τ) scM0_3 fullShare d) ∗ (∃ d, owns (c : Thread nD τ) scM0_4 fullShare d)
      ∗ (∃ d, owns (c : Thread nD τ) scM0_5 fullShare (scaleAt m c d (n + 1) hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c (n + 1) hn) ∗ owns (c : Thread nD τ) scM0_1 fullShare (xdAll m c) ∗ (∃ d, owns (c : Thread nD τ) scM0_2 fullShare d) ∗ (∃ d, owns (c : Thread nD τ) scM0_3 fullShare d) ∗ (∃ d, owns (c : Thread nD τ) scM0_4 fullShare d)
      ∗ (∃ d, owns (c : Thread nD τ) scM0_5 fullShare (scaleAt m c d (n + 1) hn))) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c n h) ∗ owns (c : Thread nD τ) scM0_1 fullShare (xdAll m c) ∗ (∃ d, owns (c : Thread nD τ) scM0_2 fullShare d) ∗ (∃ d, owns (c : Thread nD τ) scM0_3 fullShare d) ∗ (∃ d, owns (c : Thread nD τ) scM0_4 fullShare d)
      ∗ (∃ d, owns (c : Thread nD τ) scM0_5 fullShare (scaleAt m c d n h))) ∗ (∃ r, prngReg c r)) := by
  cases n with
  | zero => exact absurd rfl hz
  | succ n => rfl

/-- The proof data: the arrays as the region finds them, what each window's buffer holds after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay4 (accAt m c (t.val + 1) t.isLt)
    | ⟨6, _⟩ => dwPoint (colDeq (iblk m c 0 t)) (xdAll m c)
    | ⟨7, _⟩ => rowCode (iblk m c 0 t)
    | ⟨8, _⟩ => k0_pay5 (scaleAt m c (fun _ => 0#32) (t.val + 1) t.isLt)
    | ⟨9, _⟩ => colCode (iblk m c 0 t)
    | ⟨10, _⟩ => colScale (iblk m c 0 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay4 (accAt m c (t.val + 1) t.isLt) := by dsimp only [dats]
theorem after0_6 (c : Dev nD) (t : Fin cfg0.N) : (dats m 0 c).after 6 t = dwPoint (colDeq (iblk m c 0 t)) (xdAll m c) := by dsimp only [dats]
theorem after0_7 (c : Dev nD) (t : Fin cfg0.N) : (dats m 0 c).after 7 t = rowCode (iblk m c 0 t) := by dsimp only [dats]
theorem after0_8 (c : Dev nD) (t : Fin cfg0.N) : (dats m 0 c).after 8 t = k0_pay5 (scaleAt m c (fun _ => 0#32) (t.val + 1) t.isLt) := by dsimp only [dats]
theorem after0_9 (c : Dev nD) (t : Fin cfg0.N) : (dats m 0 c).after 9 t = colCode (iblk m c 0 t) := by dsimp only [dats]
theorem after0_10 (c : Dev nD) (t : Fin cfg0.N) : (dats m 0 c).after 10 t = colScale (iblk m c 0 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body's obligation at the first point. -/
theorem sound_A (c : Dev nD) (t : Fin cfg0.N) (h0 : t.val % 14 = 0) (h1 : ¬t.val % 14 = 13) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  have hz : t.val = 0 := by omega
  obtain rfl : t = pt 0 pos_N := Fin.ext hz
  rw [PhiS_castSucc m c _, PhiS_zero m c _ _ rfl, PhiA0_eq]
  iintro ⟨⟨⟨HS0, HS1, HS2, HS3, HS4, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_A c (grid0.coords (pt 0 pos_N)) _ _ _ _ _ _ _ _ _ _ _ _ _ _ _ _ _ _ _ _ _ _ _ _ _ _ _ _ _ _ _ _ _ _ ((hcond0_0 (pt 0 pos_N)).mpr h0) (fun h => h1 ((hcond0_1 (pt 0 pos_N)).mp h)) (iblk m c 0 (pt 0 pos_N)) (iblk m c 1 (pt 0 pos_N)) (iblk m c 2 (pt 0 pos_N)) (iblk m c 3 (pt 0 pos_N)) (iblk m c 4 (pt 0 pos_N)) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists e5; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexact H9
  iexact H10

set_option maxHeartbeats 4000000 in
/-- The body's obligation at a point between. -/
theorem sound_B (c : Dev nD) (t : Fin cfg0.N) (h0 : ¬t.val % 14 = 0) (h1 : ¬t.val % 14 = 13) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  have hz : t.val ≠ 0 := by omega
  rw [PhiS_castSucc m c t, PhiS_pos m c _ _ hz]
  have hA : accAt m c (t.val + 1) t.isLt = accPoint (iblk m c 0 t) (iblk m c 3 t) (iblk m c 4 t) (accAt m c t.val (Nat.le_of_lt t.isLt)) := rfl
  have hS : ∀ d, scaleAt m c d (t.val + 1) t.isLt = scalePoint (grid0.coords t) (iblk m c 0 t) (scaleAt m c d t.val (Nat.le_of_lt t.isLt)) := fun _ => rfl
  iintro ⟨⟨⟨HS0, HS1, HS2, HS3, HS4, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists e5; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexists _; iexact H8
  isplitl [H9]; · iexact H9
  iexact H10

set_option maxHeartbeats 4000000 in
/-- The body's obligation at the last point. -/
theorem sound_C (c : Dev nD) (t : Fin cfg0.N) (h0 : ¬t.val % 14 = 0) (h1 : t.val % 14 = 13) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 14 := lt_of_lt_of_eq t.isLt (show cfg0.N = 14 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  have hz : t.val ≠ 0 := by omega
  rw [PhiS_castSucc m c t, PhiS_pos m c _ _ hz]
  have hA : accAt m c (t.val + 1) t.isLt = accPoint (iblk m c 0 t) (iblk m c 3 t) (iblk m c 4 t) (accAt m c t.val (Nat.le_of_lt t.isLt)) := rfl
  have hS : ∀ d, scaleAt m c d (t.val + 1) t.isLt = scalePoint (grid0.coords t) (iblk m c 0 t) (scaleAt m c d t.val (Nat.le_of_lt t.isLt)) := fun _ => rfl
  iintro ⟨⟨⟨HS0, HS1, HS2, HS3, HS4, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexists e5; iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · rw [show scaleAt m c (fun _ => 0#32) (t.val + 1) t.isLt = scaleAt m c e5 (t.val + 1) t.isLt from scaleAt_indep m c _ e5 _ _ (by omega)]; iexact H8
  isplitl [H9]; · iexact H9
  iexact H10

/-- The body's obligation at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 14 = 0
  · exact sound_A m c t h0 (by omega)
  · by_cases h1 : t.val % 14 = 13
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, ⟨%e5, HS5⟩⟩, Hg⟩
  isplitl [HS0 HS1 HS2 HS3 HS4 HS5]
  · isplitl [HS0]
    · iexists _; iexact HS0
    isplitl [HS1]
    · iexists _; iexact HS1
    isplitl [HS2]
    · iexact HS2
    isplitl [HS3]
    · iexact HS3
    isplitl [HS4]
    · iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 14 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Run.Same.lean ====
/-
  The kernel as run and the kernel as idealised are the same program text: their bodies, body tables and entry points
  are equal term by term. So the frame proved of the one (at any number format) is the frame of the other.
-/
module

public import proofs.«01_k».proof.Proof.Gen.Kernel
public import proofs.«01_k».proof.Proof.Run.Frame

@[expose] public section

set_option maxRecDepth 100000

noncomputable section

namespace Cert.Kernel.Run

open Idealize.ShloMosaic Idealize.ShloMosaic.TcCoe
open Cert.Kernel Cert.Kernel.Gen

variable {F : FTy → Type} [FloatOps F]

theorem part1_same : k0_part1 (F := F) = Cert.KernelIdeal.k0_part1 := rfl
theorem part2_same : k0_part2 (F := F) = Cert.KernelIdeal.k0_part2 := rfl
theorem body_same : cc0_mxfp8_linear_bwd (F := F) = Cert.KernelIdeal.cc0_mxfp8_linear_bwd := rfl

theorem defs₀_same : defs₀ (F := F) = Cert.KernelIdeal.defs₀ := by
  unfold Cert.Kernel.defs₀ Cert.KernelIdeal.defs₀
  refine congrArg Defs.onTc ?_
  funext x
  match x with
  | 0 =>
    funext y
    obtain ⟨t, s⟩ := y
    exact rfl

theorem defs_same : defs (F := F) = Cert.KernelIdeal.defs := by
  unfold Cert.Kernel.defs Cert.KernelIdeal.defs
  exact congrArg (Pipeline.defs (pcfgs (F := F))) defs₀_same

theorem main_same : main (F := F) = Cert.KernelIdeal.main := rfl

/-- The frame of the kernel as run: it terminates, its arguments end unchanged, every semaphore counter reads zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same, main_same]
  exact Cert.KernelIdeal.Run.frame m ρ

end Cert.Kernel.Run

end
-- ==== Proof.Math.Scale.lean ====
module

public import Idealize.ShloMosaic.Lib.Pointwise

@[expose] public section

set_option maxRecDepth 16384

noncomputable section

namespace Cert.Scale

open Idealize.ShloMosaic

/-!
  The block scale of the format, one number at a time.

  The kernel reads the exponent of a nonnegative number by a search over the eight bits of its exponent field and
  keeps the scale as a byte; the reference takes the floor of a logarithm. Both name the same power of two.
-/

/-! ## Powers of two as words -/

/-- The float whose exponent field is `e` and whose other bits are 0. -/
def pow2 (e : BitVec 32) : EReal := Ideal.ofBits .f32 (IntOp.shli .vector e 23#32)

theorem field_ex : ∀ n : Fin 256,
    ((IntOp.shli .vector (BitVec.ofNat 32 n.val) 23#32).extractLsb' 23 8).toNat = n.val := by decide +kernel
theorem field_fr : ∀ n : Fin 256,
    ((IntOp.shli .vector (BitVec.ofNat 32 n.val) 23#32).extractLsb' 0 23).toNat = 0 := by decide +kernel
theorem field_neg : ∀ n : Fin 256,
    ((IntOp.shli .vector (BitVec.ofNat 32 n.val) 23#32).extractLsb' 31 1 == 1#1) = false := by decide +kernel

/-- What a word with exponent field `n`, an empty fraction and a plus sign denotes. -/
theorem ieee_field (w : BitVec 32) (n : ℕ) (e : (w.extractLsb' 23 8).toNat = n) (f : (w.extractLsb' 0 23).toNat = 0)
    (g : (w.extractLsb' 31 1 == 1#1) = false) :
    Ideal.ieee 8 23 w = if n = 255 then ⊤ else if n = 0 then 0 else (((2 : ℝ) ^ ((n : ℤ) - 127) : ℝ) : EReal) := by
  unfold Ideal.ieee
  simp only [Nat.reduceAdd, e, f, g]
  have h : ((n : ℤ) - 127) = 23 + ((n : ℤ) - 127 - 23) := by ring
  have hr : (2 : ℝ) ^ ((n : ℤ) - 127) = 8388608 * (2 : ℝ) ^ ((n : ℤ) - 127 - 23) := by
    rw [h, zpow_add₀ (by norm_num : (2 : ℝ) ≠ 0)]
    norm_num
  rw [hr]
  by_cases h1 : n = 255
  · simp [h1]
  · by_cases h2 : n = 0
    · simp [h2]
    · simp [h1, h2]

theorem pow2_field (n : ℕ) (h : n < 256) : pow2 (BitVec.ofNat 32 n)
    = if n = 255 then ⊤ else if n = 0 then 0 else (((2 : ℝ) ^ ((n : ℤ) - 127) : ℝ) : EReal) :=
  ieee_field _ n (field_ex ⟨n, h⟩) (field_fr ⟨n, h⟩) (field_neg ⟨n, h⟩)

/-- For a field that is neither 0 nor 255 the float is a power of two. -/
theorem pow2_of (n : ℕ) (h1 : 1 ≤ n) (h2 : n ≤ 254) :
    pow2 (BitVec.ofNat 32 n) = (((2 : ℝ) ^ ((n : ℤ) - 127) : ℝ) : EReal) := by
  rw [pow2_field n (by omega), if_neg (by omega), if_neg (by omega)]

theorem pow2_top : pow2 255#32 = ⊤ := by
  have := pow2_field 255 (by omega)
  rwa [if_pos rfl] at this

/-! ## The search -/

/-- One step of the search: take the bit when the float of the field with it does not exceed `q`. -/
def step (q : EReal) (b e : BitVec 32) : BitVec 32 :=
  Scalar.select (Ideal.cmp .oge q (pow2 (IntOp.addi e b))) (IntOp.addi e b) e

/-- The eight steps. -/
def search (q : EReal) : BitVec 32 :=
  step q 1#32 (step q 2#32 (step q 4#32 (step q 8#32 (step q 16#32 (step q 32#32 (step q 64#32 (step q 128#32 0#32)))))))

theorem select_oge (q t : EReal) (x y : BitVec 32) :
    Scalar.select (Ideal.cmp .oge q t) x y = if t ≤ q then x else y := by
  unfold Scalar.select Ideal.cmp
  by_cases h : t ≤ q <;> simp [h]

/-- What the search knows after the bits down to `b`: the field lies in `[n, n + b)`. -/
def Within (q : EReal) (b n : ℕ) : Prop :=
  n + b ≤ 256 ∧ (n = 0 ∨ pow2 (BitVec.ofNat 32 n) ≤ q) ∧ (n + b = 256 ∨ q < pow2 (BitVec.ofNat 32 (n + b)))

theorem step_within (q : EReal) (b n : ℕ) (h : Within q (b + b) n) :
    ∃ n', step q (BitVec.ofNat 32 b) (BitVec.ofNat 32 n) = BitVec.ofNat 32 n' ∧ Within q b n' := by
  obtain ⟨h1, h2, h3⟩ := h
  have ha : IntOp.addi (BitVec.ofNat 32 n) (BitVec.ofNat 32 b) = BitVec.ofNat 32 (n + b) := by
    unfold IntOp.addi
    exact (BitVec.ofNat_add n b).symm
  unfold step
  rw [select_oge, ha]
  by_cases hq : pow2 (BitVec.ofNat 32 (n + b)) ≤ q
  · exact ⟨n + b, by rw [if_pos hq], by omega, Or.inr hq, by rw [Nat.add_assoc]; exact h3⟩
  · exact ⟨n, by rw [if_neg hq], by omega, h2, Or.inr (not_le.mp hq)⟩

theorem search_within (q : EReal) : ∃ n, search q = BitVec.ofNat 32 n ∧ Within q 1 n := by
  obtain ⟨n7, e7, w7⟩ := step_within q 128 0 ⟨by omega, Or.inl rfl, Or.inl rfl⟩
  obtain ⟨n6, e6, w6⟩ := step_within q 64 n7 w7
  obtain ⟨n5, e5, w5⟩ := step_within q 32 n6 w6
  obtain ⟨n4, e4, w4⟩ := step_within q 16 n5 w5
  obtain ⟨n3, e3, w3⟩ := step_within q 8 n4 w4
  obtain ⟨n2, e2, w2⟩ := step_within q 4 n3 w3
  obtain ⟨n1, e1, w1⟩ := step_within q 2 n2 w2
  obtain ⟨n0, e0, w0⟩ := step_within q 1 n1 w1
  refine ⟨n0, ?_, w0⟩
  unfold search
  rw [e7, e6, e5, e4, e3, e2, e1, e0]

/-- Of the powers of two of the format the search returns the exponent field. -/
theorem search_pow2 (n : ℕ) (h1 : 1 ≤ n) (h2 : n ≤ 254) : search (pow2 (BitVec.ofNat 32 n)) = BitVec.ofNat 32 n := by
  obtain ⟨e, he, w1, w2, w3⟩ := search_within (pow2 (BitVec.ofNat 32 n))
  rw [he]
  rw [pow2_of n h1 h2] at w2 w3
  have hle : e ≤ n := by
    by_contra hc
    rcases w2 with w2 | w2
    · omega
    · rcases Nat.lt_or_ge e 255 with h | h
      · rw [pow2_of e (by omega) (by omega), EReal.coe_le_coe_iff, zpow_le_zpow_iff_right₀ (by norm_num)] at w2
        omega
      · have : e = 255 := by omega
        subst this
        rw [pow2_top] at w2
        exact absurd w2 (by simp)
  have hge : n ≤ e := by
    by_contra hc
    rcases w3 with w3 | w3
    · omega
    · rw [pow2_of (e + 1) (by omega) (by omega), EReal.coe_lt_coe_iff, zpow_lt_zpow_iff_right₀ (by norm_num)] at w3
      omega
  rw [show e = n by omega]

/-! ## The scale of a block -/

/-- The factor the block's largest magnitude is multiplied by: the float nearest 1/448. -/
def kappa : EReal := Ideal.ofBits .f32 0x3B124925#32

/-- The kernel's scale byte of `q`: the exponent field plus one, and 127 where the field is 0 or 255. -/
def byteOf (q : EReal) : BitVec 32 :=
  Scalar.select (IntOp.ori (IntOp.cmpi .eq (search q) 0#32) (IntOp.cmpi .eq (search q) 255#32)) 127#32
    (IntOp.addi (search q) 1#32)

/-- The reference's exponent of `q`: one more than the floor of its base-two logarithm, and 0 where `q` is 0 or `⊤`. -/
def expOf (q : EReal) : EReal :=
  Scalar.select (IntOp.ori (Ideal.cmp .oeq q 0) (Ideal.cmp .oeq q (Ideal.ofBits .f32 0x7F800000#32))) 0
    (Ideal.liftRound Int.floor (Ideal.div (Ideal.log q) (Ideal.log (Ideal.ofBits .f32 0x40000000#32))) + 1)

/-- The numbers of which both are sound: 0, `⊤`, and the reals with a middle exponent. -/
def Good (q : EReal) : Prop :=
  q = 0 ∨ q = ⊤ ∨ ∃ r : ℝ, q = r ∧ (2 : ℝ) ^ (-126 : ℤ) ≤ r ∧ r < (2 : ℝ) ^ (126 : ℤ)

theorem inf_bits : Ideal.ofBits .f32 0x7F800000#32 = (⊤ : EReal) := by simp [Ideal.ofBits, Ideal.ieee]
theorem two_bits : Ideal.ofBits .f32 0x40000000#32 = ((2 : ℝ) : EReal) := by
  simp [Ideal.ofBits, Ideal.ieee, -EReal.coe_mul]; norm_num

theorem byteOf_eq (n : ℕ) (q : EReal) (h : search q = BitVec.ofNat 32 n) (h1 : n ≤ 255) :
    byteOf q = if n = 0 ∨ n = 255 then 127#32 else BitVec.ofNat 32 (n + 1) := by
  unfold byteOf
  rw [h]
  have key : ∀ n : Fin 256, Scalar.select (IntOp.ori (IntOp.cmpi .eq (BitVec.ofNat 32 n.val) 0#32)
      (IntOp.cmpi .eq (BitVec.ofNat 32 n.val) 255#32)) 127#32 (IntOp.addi (BitVec.ofNat 32 n.val) 1#32)
      = if n.val = 0 ∨ n.val = 255 then 127#32 else BitVec.ofNat 32 (n.val + 1) := by decide +kernel
  exact key ⟨n, by omega⟩

theorem expOf_zero : expOf 0 = 0 := by
  rw [expOf, inf_bits]
  simp [Ideal.cmp, IntOp.ori, Scalar.select]

theorem expOf_top : expOf ⊤ = 0 := by
  rw [expOf, inf_bits]
  simp [Ideal.cmp, IntOp.ori, Scalar.select]

theorem expOf_coe (r : ℝ) (k : ℤ) (h1 : (2 : ℝ) ^ k ≤ r) (h2 : r < (2 : ℝ) ^ (k + 1)) :
    expOf (r : EReal) = (((k + 1 : ℤ) : ℝ) : EReal) := by
  have hr : 0 < r := lt_of_lt_of_le (zpow_pos (by norm_num) k) h1
  have h0 : (r : EReal) ≠ 0 := by
    intro h
    exact absurd (EReal.coe_eq_zero.mp h) hr.ne'
  have hl2 : (0 : ℝ) < Real.log 2 := Real.log_pos (by norm_num)
  have hfloor : ⌊Real.log r / Real.log 2⌋ = k := by
    rw [Int.floor_eq_iff]
    constructor
    · rw [le_div_iff₀ hl2, ← Real.log_zpow]
      exact Real.log_le_log (zpow_pos (by norm_num) k) h1
    · rw [div_lt_iff₀ hl2]
      have := Real.log_lt_log hr h2
      rw [Real.log_zpow] at this
      push_cast at this
      exact this
  have hdiv : Ideal.div (Ideal.log (r : EReal)) (Ideal.log ((2 : ℝ) : EReal)) = ((Real.log r / Real.log 2 : ℝ) : EReal) := by
    have e1 : Ideal.log (r : EReal) = (Real.log r : EReal) := by
      show (if r ≤ 0 then ⊥ else (Real.log r : EReal)) = _
      rw [if_neg (not_le.mpr hr)]
    have e2 : Ideal.log ((2 : ℝ) : EReal) = (Real.log 2 : EReal) := by
      show (if (2 : ℝ) ≤ 0 then ⊥ else (Real.log 2 : EReal)) = _
      rw [if_neg (by norm_num)]
    rw [e1, e2]
    unfold Ideal.div
    rw [if_neg (by intro h; exact absurd (EReal.coe_eq_zero.mp h) hl2.ne'), ← EReal.coe_inv, ← EReal.coe_mul]
    rfl
  unfold expOf
  rw [inf_bits, two_bits, hdiv]
  show Scalar.select _ _ ((((⌊Real.log r / Real.log 2⌋ : ℤ) : ℝ) : EReal) + 1) = _
  rw [hfloor]
  have hsel : IntOp.ori (Ideal.cmp .oeq (r : EReal) 0) (Ideal.cmp .oeq (r : EReal) ⊤) = 0#1 := by
    simp [Ideal.cmp, h0, hr.ne', IntOp.ori]
  rw [hsel]
  unfold Scalar.select
  simp

/-- On such numbers the kernel's byte is `n`, and the reference's exponent is `n - 127`, for one and the same `n`. -/
theorem byte_exp (q : EReal) (hq : Good q) :
    ∃ n : ℕ, 1 ≤ n ∧ n ≤ 253 ∧ byteOf q = BitVec.ofNat 32 n ∧ expOf q = ((((n : ℤ) - 127 : ℤ) : ℝ) : EReal) := by
  obtain ⟨e, he, w1, w2, w3⟩ := search_within q
  have hb := byteOf_eq e q he (by omega)
  rcases hq with rfl | rfl | ⟨r, rfl, hlo, hhi⟩
  · refine ⟨127, by omega, by omega, ?_, by rw [expOf_zero]; simp⟩
    rw [hb, if_pos]
    by_contra hc
    rcases w2 with w2 | w2
    · omega
    · rw [pow2_of e (by omega) (by omega), ← EReal.coe_zero, EReal.coe_le_coe_iff] at w2
      exact absurd w2 (not_le.mpr (zpow_pos (by norm_num) _))
  · refine ⟨127, by omega, by omega, ?_, by rw [expOf_top]; simp⟩
    rw [hb, if_pos]
    rcases w3 with w3 | w3
    · exact Or.inr (by omega)
    · exact absurd w3 (by simp)
  · have h0 : e ≠ 0 := by
      rintro rfl
      rcases w3 with w3 | w3
      · omega
      · rw [pow2_of (0 + 1) (by omega) (by omega), EReal.coe_lt_coe_iff] at w3
        norm_num at w3 hlo
        linarith
    have h255 : e < 253 := by
      by_contra hc
      rcases w2 with w2 | w2
      · omega
      · rcases Nat.lt_or_ge e 255 with h | h
        · rw [pow2_of e (by omega) (by omega), EReal.coe_le_coe_iff] at w2
          have := lt_of_le_of_lt w2 hhi
          rw [zpow_lt_zpow_iff_right₀ (by norm_num)] at this
          omega
        · have : e = 255 := by omega
          subst this
          rw [pow2_top] at w2
          exact absurd w2 (by simp)
    refine ⟨e + 1, by omega, by omega, ?_, ?_⟩
    · rw [hb, if_neg (by omega)]
    · have a1 : (2 : ℝ) ^ ((e : ℤ) - 127) ≤ r := by
        rcases w2 with w2 | w2
        · omega
        · rwa [pow2_of e (by omega) (by omega), EReal.coe_le_coe_iff] at w2
      have a2 : r < (2 : ℝ) ^ (((e : ℤ) - 127) + 1) := by
        rcases w3 with w3 | w3
        · omega
        · rw [pow2_of (e + 1) (by omega) (by omega), EReal.coe_lt_coe_iff] at w3
          convert w3 using 2
          push_cast; ring
      rw [expOf_coe r _ a1 a2]
      congr 2
      push_cast; ring

end Cert.Scale

end
-- ==== Proof.Math.Byte.lean ====
module

public import proofs.«01_k».proof.Proof.Math.Scale

@[expose] public section

set_option maxRecDepth 16384

noncomputable section

namespace Cert.Scale

open Idealize.ShloMosaic

/-!
  The consequences of `byte_exp` in the kernel's and the reference's own words: the inverse scale, the stored byte, and
  the scale read back from the byte.
-/

/-- The kernel's inverse scale of a byte. -/
def invOf (b : BitVec 32) : EReal := pow2 (IntOp.subi 254#32 b)
/-- The reference's stored byte. -/
def storedOf (q : EReal) : BitVec 8 := (IntOp.addi (Ideal.fptosi 32 (expOf q)) 127#32).setWidth 8
/-- The reference's scale of a stored byte. -/
def scaleOf (s : BitVec 8) : EReal :=
  Ideal.exp2 ((((s.setWidth 32).toInt : ℝ) : EReal) - Ideal.ofBits .f32 0x42FE0000#32)

theorem bias_bits : Ideal.ofBits .f32 0x42FE0000#32 = ((127 : ℝ) : EReal) := by
  simp [Ideal.ofBits, Ideal.ieee, -EReal.coe_mul]; norm_num

theorem exp2_int (k : ℤ) : Ideal.exp2 (((k : ℝ) : EReal)) = (((2 : ℝ) ^ k : ℝ) : EReal) := by
  show ((Real.rpow 2 (k : ℝ) : ℝ) : EReal) = _
  congr 1
  exact Real.rpow_intCast 2 k

/-- A stored byte between 1 and 254 is the same power of two for the kernel and for the reference. -/
theorem scaleOf_eq (s : BitVec 8) (h1 : 1 ≤ s.toNat) (h2 : s.toNat ≤ 254) : scaleOf s = pow2 (s.setWidth 32) := by
  have hw : s.setWidth 32 = BitVec.ofNat 32 s.toNat := by
    apply BitVec.eq_of_toNat_eq
    simp
  have hi : (s.setWidth 32).toInt = (s.toNat : ℤ) := by
    rw [BitVec.toInt_eq_toNat_of_lt] <;> simp <;> omega
  unfold scaleOf
  rw [hi, hw, pow2_of s.toNat h1 h2, bias_bits, ← EReal.coe_sub, ← exp2_int]
  congr 2
  push_cast; ring

theorem good_inv (q : EReal) (hq : Good q) : Ideal.exp2 (0 - expOf q) = invOf (byteOf q) := by
  obtain ⟨n, h1, h2, hb, he⟩ := byte_exp q hq
  have hs : IntOp.subi 254#32 (BitVec.ofNat 32 n) = BitVec.ofNat 32 (254 - n) := by
    have key : ∀ n : Fin 255, IntOp.subi 254#32 (BitVec.ofNat 32 n.val) = BitVec.ofNat 32 (254 - n.val) := by
      decide +kernel
    exact key ⟨n, by omega⟩
  unfold invOf
  rw [hb, he, hs, pow2_of _ (by omega) (by omega), ← EReal.coe_zero, ← EReal.coe_sub, ← exp2_int]
  congr 2
  have : ((254 - n : ℕ) : ℤ) = 254 - (n : ℤ) := by omega
  rw [this]
  push_cast; ring

theorem good_stored (q : EReal) (hq : Good q) : storedOf q = (byteOf q).setWidth 8 := by
  obtain ⟨n, h1, h2, hb, he⟩ := byte_exp q hq
  have hf : Ideal.fptosi 32 (expOf q) = BitVec.ofInt 32 ((n : ℤ) - 127) := by
    rw [he]
    unfold Ideal.fptosi
    congr 1
    show max _ (min _ (if (0 : ℝ) ≤ (((n : ℤ) - 127 : ℤ) : ℝ) then ⌊(((n : ℤ) - 127 : ℤ) : ℝ)⌋ else ⌈(((n : ℤ) - 127 : ℤ) : ℝ)⌉)) = _
    rw [Int.floor_intCast, Int.ceil_intCast, ite_self]
    norm_num
    omega
  have key : ∀ n : Fin 255, (IntOp.addi (BitVec.ofInt 32 ((n.val : ℤ) - 127)) 127#32).setWidth 8
      = (BitVec.ofNat 32 n.val).setWidth 8 := by decide +kernel
  unfold storedOf
  rw [hf, hb]
  exact key ⟨n, by omega⟩

theorem good_scale (q : EReal) (hq : Good q) : scaleOf ((byteOf q).setWidth 8) = pow2 (byteOf q) := by
  obtain ⟨n, h1, h2, hb, he⟩ := byte_exp q hq
  have hn : ((byteOf q).setWidth 8).toNat = n := by
    rw [hb]
    simp
    omega
  rw [scaleOf_eq _ (by omega) (by omega)]
  congr 1
  apply BitVec.eq_of_toNat_eq
  rw [hb]
  simp
  omega

/-- The search on the power of two of a byte gives the byte back. -/
theorem good_search (q : EReal) (hq : Good q) : search (pow2 (byteOf q)) = byteOf q := by
  obtain ⟨n, h1, h2, hb, he⟩ := byte_exp q hq
  rw [hb]
  exact search_pow2 n h1 (by omega)

/-! ## Codes -/

/-- A code: the element times the inverse scale, clipped to ±448. -/
def codeOf (x i : EReal) : EReal := min (Ideal.ofBits .f32 0x43E00000#32) (max (Ideal.ofBits .f32 0xC3E00000#32) (x * i))

/-! ## The largest magnitude of a block -/

/-- The magnitude of an element. -/
abbrev mag (x : EReal) : EReal := FloatOps.absf (F := Ideal) (φ := .f32) x

/-- What the largest magnitude of a block may be: 0, infinity, or a real between `448 · 2⁻¹²⁶` and the largest float. -/
def Fine (x : EReal) : Prop :=
  x = 0 ∨ x = ⊤ ∨ (Ideal.ofBits .f32 0x04E00000#32 ≤ x ∧ x ≤ Ideal.ofBits .f32 0x7F7FFFFF#32)

theorem low_bits : Ideal.ofBits .f32 0x04E00000#32 = ((448 * (2 : ℝ) ^ (-126 : ℤ) : ℝ) : EReal) := by
  simp [Ideal.ofBits, Ideal.ieee, -EReal.coe_mul]; norm_num
theorem high_bits : Ideal.ofBits .f32 0x7F7FFFFF#32 = ((16777215 * (2 : ℝ) ^ (104 : ℤ) : ℝ) : EReal) := by
  simp [Ideal.ofBits, Ideal.ieee, -EReal.coe_mul]
theorem kappa_bits : kappa = ((9586981 * (2 : ℝ) ^ (-32 : ℤ) : ℝ) : EReal) := by
  simp [kappa, Ideal.ofBits, Ideal.ieee, -EReal.coe_mul]
theorem neg_inf_bits : Ideal.ofBits .f32 0xFF800000#32 = (⊥ : EReal) := by simp [Ideal.ofBits, Ideal.ieee]

/-- A fine magnitude over 448 has a middle exponent. -/
theorem good_of_fine (x : EReal) (h : Fine x) : Good (x * kappa) := by
  have hk : (0 : ℝ) < 9586981 * (2 : ℝ) ^ (-32 : ℤ) := by positivity
  rcases h with rfl | rfl | ⟨h1, h2⟩
  · exact Or.inl (zero_mul _)
  · refine Or.inr (Or.inl ?_)
    rw [kappa_bits]
    exact EReal.top_mul_of_pos (by exact_mod_cast hk)
  · refine Or.inr (Or.inr ?_)
    rw [low_bits] at h1
    rw [high_bits] at h2
    have hb : x ≠ ⊥ := fun e => by rw [e] at h1; exact EReal.coe_ne_bot _ (le_bot_iff.mp h1)
    have ht : x ≠ ⊤ := fun e => by rw [e] at h2; exact EReal.coe_ne_top _ (top_le_iff.mp h2)
    lift x to ℝ using ⟨ht, hb⟩
    rw [EReal.coe_le_coe_iff] at h1 h2
    refine ⟨x * (9586981 * (2 : ℝ) ^ (-32 : ℤ)), by rw [kappa_bits]; exact (EReal.coe_mul _ _).symm, ?_, ?_⟩
    · refine le_trans ?_ (mul_le_mul_of_nonneg_right h1 hk.le)
      norm_num
    · refine lt_of_le_of_lt (mul_le_mul_of_nonneg_right h2 hk.le) ?_
      norm_num

end Cert.Scale

end
-- ==== Proof.Run.Entry.lean ====
module

public import proofs.«01_k».proof.Proof.Run.Values
public import proofs.«01_k».proof.Proof.Math.Byte

@[expose] public section

set_option maxRecDepth 16384

noncomputable section

namespace Cert.KernelIdeal.Run

open Idealize.ShloMosaic Cert.KernelIdeal Cert.KernelIdeal.Gen Cert.Scale

/-!
  The body's vectors at the extended reals, one entry at a time: what each entry of the values named in `Values` is, as
  a scalar expression in the entries of the blocks.
-/

/-! ## The search, on vectors -/

/-- One step of the search, entry by entry. -/
def vstep {s : Shape} (q : FVec Ideal s .f32) (b : BitVec 32) (e : IVec s 32) : IVec s 32 :=
  select (cmpf .olt q (bitcastToFloat .f32 (shli (addi e (broadcast s b)) (broadcast s 23#32)))) e (addi e (broadcast s b))

/-- A step by the opposite comparison. -/
theorem step_lt (q : EReal) (b e : BitVec 32) :
    Scalar.select (Ideal.cmp .olt q (pow2 (IntOp.addi e b))) e (IntOp.addi e b) = step q b e := by
  unfold step Ideal.cmp Scalar.select
  by_cases h : q < pow2 (IntOp.addi e b)
  · simp [h, not_le.mpr h]
  · simp [h, not_lt.mp h]

theorem vstep_apply {s : Shape} (q : FVec Ideal s .f32) (b : BitVec 32) (e : IVec s 32) (y : s.Idx) :
    vstep q b e y = step (q y) b (e y) := step_lt (q y) b (e y)

/-- The eight steps. -/
def vsearch {s : Shape} (q : FVec Ideal s .f32) : IVec s 32 :=
  vstep q 1#32 (vstep q 2#32 (vstep q 4#32 (vstep q 8#32 (vstep q 16#32 (vstep q 32#32 (vstep q 64#32
    (vstep q 128#32 (broadcast s 0#32))))))))

theorem vsearch_apply {s : Shape} (q : FVec Ideal s .f32) (y : s.Idx) : vsearch q y = search (q y) := by
  unfold vsearch search
  simp only [vstep_apply]
  rfl

theorem colExp_vec (x0 : Vec Ideal S128x1024 .bf16) : colExp x0 = vsearch (k0_pay16 x0) := rfl

/-- The scale byte, of the vector searched and its exponent fields. -/
def vbyte {s : Shape} (e : IVec s 32) : IVec s 32 :=
  select (ori (cmpi .eq e (broadcast s 0#32)) (cmpi .eq e (broadcast s 255#32))) (broadcast s 127#32)
    (addi e (broadcast s 1#32))

theorem vbyte_search {s : Shape} (q : FVec Ideal s .f32) (y : s.Idx) : vbyte (vsearch q) y = byteOf (q y) := by
  show Scalar.select (IntOp.ori (IntOp.cmpi .eq (vsearch q y) 0#32) (IntOp.cmpi .eq (vsearch q y) 255#32)) 127#32
    (IntOp.addi (vsearch q y) 1#32) = _
  rw [vsearch_apply]
  rfl

/-- The scale bytes of the column blocks. -/
abbrev colByte (x0 : Vec Ideal S128x1024 .bf16) : IVec S4x1024 32 := k0_pay21 (colExp x0) (colZero x0)

theorem colByte_apply (x0 : Vec Ideal S128x1024 .bf16) (y : S4x1024.Idx) : colByte x0 y = byteOf (k0_pay16 x0 y) := by
  have h : colByte x0 = vbyte (colExp x0) := rfl
  rw [h, colExp_vec, vbyte_search]

theorem rowByte_apply (x0 : Vec Ideal S128x1024 .bf16) (y : S32x128.Idx) :
    rowByte x0 y = byteOf (k0_pay27 (rowMax x0) y) := by
  have h : rowByte x0 = vbyte (vsearch (k0_pay27 (rowMax x0))) := rfl
  rw [h, vbyte_search]

/-- The exponent fields of the spread row scales, after the search's last two steps. -/
abbrev rowField (x0 : Vec Ideal S128x1024 .bf16) : IVec S128x1024 32 :=
  vstep (rowSpread x0) 1#32 (vstep (rowSpread x0) 2#32 (rowExp x0))

theorem rowField_apply (x0 : Vec Ideal S128x1024 .bf16) (y : S128x1024.Idx) :
    rowField x0 y = search (rowSpread x0 y) := by
  have h : rowField x0 = vsearch (rowSpread x0) := rfl
  rw [h, vsearch_apply]

/-! ## Magnitudes -/

/-- The largest magnitude of the column block `a` (32 tokens) of feature `j`. -/
def colMag (x0 : Vec Ideal S128x1024 .bf16) (a : Fin 4) (j : Fin 1024) : EReal :=
  Finset.univ.fold max ⊥ fun u : Fin 32 => mag (x0 (ix2 (⟨a.val * 32 + u.val, by omega⟩ : Fin 128) j))

/-- The largest magnitude of the row block `a` (32 features) of token `s`. -/
def rowMag (x0 : Vec Ideal S128x1024 .bf16) (a : Fin 32) (s : Fin 128) : EReal :=
  Finset.univ.fold max ⊥ fun u : Fin 32 => mag (x0 (ix2 s (⟨a.val * 32 + u.val, by omega⟩ : Fin 1024)))

theorem colMag_eq (x0 : Vec Ideal S128x1024 .bf16) (a : Fin 4) (j : Fin 1024) :
    k0_pay16 x0 (ix2 a j) = colMag x0 a j * kappa := by
  pointwise [k0_pay16, k0_pay15, k0_pay14, k0_pay13, colMag, neg_inf_bits, kappa]

theorem rowMag_eq (x0 : Vec Ideal S128x1024 .bf16) (a : Fin 32) (s : Fin 128) :
    k0_pay27 (rowMax x0) (ix2 a s) = rowMag x0 a s * kappa := by
  pointwise [k0_pay27, k0_pay26, k0_pay13, rowMag, neg_inf_bits, kappa]

/-! ## Codes -/

theorem colScale_apply (x0 : Vec Ideal S128x1024 .bf16) (a : Fin 4) (j : Fin 1024) :
    colScale x0 (ix2 a j) = (byteOf (colMag x0 a j * kappa)).setWidth 8 := by
  rw [← colMag_eq, ← colByte_apply]
  rfl

theorem colCode_apply (x0 : Vec Ideal S128x1024 .bf16) (s : Fin 128) (j : Fin 1024) :
    colCode x0 (ix2 s j) = codeOf (x0 (ix2 s j)) (invOf (byteOf (colMag x0 (⟨s.val / 32, by omega⟩ : Fin 4) j * kappa))) := by
  rw [← colMag_eq, ← colByte_apply]
  unfold colCode colByte
  generalize colExp x0 = e
  generalize colZero x0 = z
  pointwise [k0_pay24, k0_pay23, k0_pay15, k0_pay14, k0_pay13, codeOf, invOf, pow2]

theorem colDeq_apply (x0 : Vec Ideal S128x1024 .bf16) (j : Fin 1024) (s : Fin 128) :
    colDeq x0 (ix2 j s) = colCode x0 (ix2 s j) * pow2 (byteOf (colMag x0 (⟨s.val / 32, by omega⟩ : Fin 4) j * kappa)) := by
  rw [← colMag_eq, ← colByte_apply]
  unfold colCode colByte colDeq
  generalize colExp x0 = e
  generalize colZero x0 = z
  pointwise [k0_pay25, k0_pay24, pow2]

theorem rowScale_apply (x0 : Vec Ideal S128x1024 .bf16) (a : Fin 32) (s : Fin 128) :
    rowScale x0 (ix2 a s) = byteOf (rowMag x0 a s * kappa) := by
  rw [← rowMag_eq, ← rowByte_apply]
  unfold rowScale
  generalize rowByte x0 = b
  pointwise [k0_pay31]

/-- The row block of a feature, as the kernel computes it: a division rounded down. -/
theorem block_index : ∀ j : Fin 1024, Scalar.select
    (IntOp.andi
      (IntOp.cmpi CmpIPredicate.ne
        (IntOp.subi (BitVec.setWidth 32 (IntOp.cmpi CmpIPredicate.sgt (BitVec.ofNat 32 j.val) 0#32))
          (BitVec.setWidth 32 (IntOp.cmpi CmpIPredicate.slt (BitVec.ofNat 32 j.val) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 j.val) 32#32) 0#32))
    (IntOp.subi (IntOp.divsi ArithUnit.vector (BitVec.ofNat 32 j.val) 32#32) 1#32)
    (IntOp.divsi ArithUnit.vector (BitVec.ofNat 32 j.val) 32#32) = BitVec.ofNat 32 (j.val / 32) := by decide +kernel

theorem select_one : ∀ a x : Fin 32,
    (BitVec.setWidth 32 (IntOp.cmpi CmpIPredicate.eq (BitVec.ofNat 32 a.val) (BitVec.ofNat 32 x.val)))
      = if a = x then 1#32 else 0#32 := by decide +kernel

/-- The product with the selection matrix picks the scale of the feature's row block. -/
theorem spread_one (b : IVec S32x128 32) (s : Fin 128) (j : Fin 1024) :
    k0_pay32 (F := Ideal) b (ix2 s j) = pow2 (b (ix2 (⟨j.val / 32, by omega⟩ : Fin 32) s)) := by
  pointwise [k0_pay32, pow2]
  rw [Finset.sum_eq_single (⟨j.val / 32, by omega⟩ : Fin 32)]
  · rw [block_index, select_one ⟨j.val / 32, by omega⟩, if_pos rfl]
    have h : FloatOps.sitofp (F := Ideal) FTy.f32 1#32 = (1 : EReal) := by
      show ((((1#32 : BitVec 32).toInt : ℤ) : ℝ) : EReal) = 1
      simp
    rw [h]
    exact mul_one _
  · intro x _ hx
    rw [block_index, select_one ⟨j.val / 32, by omega⟩ x, if_neg (Ne.symm hx)]
    have h : FloatOps.sitofp (F := Ideal) FTy.f32 0#32 = (0 : EReal) := by
      show ((((0#32 : BitVec 32).toInt : ℤ) : ℝ) : EReal) = 0
      simp
    rw [h]
    exact mul_zero _
  · intro h
    exact absurd (Finset.mem_univ _) h

theorem rowSpread_apply (x0 : Vec Ideal S128x1024 .bf16) (s : Fin 128) (j : Fin 1024) :
    rowSpread x0 (ix2 s j) = pow2 (byteOf (rowMag x0 (⟨j.val / 32, by omega⟩ : Fin 32) s * kappa)) := by
  rw [← rowMag_eq, ← rowByte_apply]
  exact spread_one _ s j

theorem rowCode_apply (x0 : Vec Ideal S128x1024 .bf16) (s : Fin 128) (j : Fin 1024) :
    rowCode x0 (ix2 s j) = codeOf (x0 (ix2 s j)) (invOf (search (rowSpread x0 (ix2 s j)))) := by
  rw [← rowField_apply]
  have h : rowCode x0 (ix2 s j) = codeOf (k0_pay14 x0 (ix2 s j)) (invOf (rowField x0 (ix2 s j))) := rfl
  rw [h]
  pointwise [k0_pay14, k0_pay13]

theorem rowDeq_apply (x0 : Vec Ideal S128x1024 .bf16) (s : Fin 128) (j : Fin 1024) :
    rowDeq x0 (ix2 s j) = rowCode x0 (ix2 s j) * rowSpread x0 (ix2 s j) := by
  unfold rowDeq rowCode
  generalize rowSpread x0 = p
  pointwise [k0_pay36]

end Cert.KernelIdeal.Run

end
-- ==== Proof.Run.Products.lean ====
module

public import proofs.«01_k».proof.Proof.Run.Entry
public import proofs.«01_k».proof.Proof.Run.Fold

@[expose] public section

set_option maxRecDepth 16384

noncomputable section

namespace Cert.KernelIdeal.Run

open Idealize.ShloMosaic Cert.KernelIdeal Cert.KernelIdeal.Gen Cert.Scale

/-!
  The scaled activations, the two products and the accumulator at the extended reals, one entry at a time.
-/

/-! ## The scaled activations -/

theorem xd0 (x2 : Vec Ideal S4x4096 .i8) (w : Vec Ideal S32x4096 .fp8e4m3) (u : Fin 32) (d : Fin 4096) :
    k0_pay8 x2 w (ix2 u d) = w (ix2 u d) * pow2 ((x2 (ix2 (0 : Fin 4) d)).setWidth 32) := by
  pointwise [k0_pay8, k0_pay7, pow2]
theorem xd1 (x2 : Vec Ideal S4x4096 .i8) (w : Vec Ideal S32x4096 .fp8e4m3) (u : Fin 32) (d : Fin 4096) :
    k0_pay9 x2 w (ix2 u d) = w (ix2 u d) * pow2 ((x2 (ix2 (1 : Fin 4) d)).setWidth 32) := by
  pointwise [k0_pay9, k0_pay7, pow2]
theorem xd2 (x2 : Vec Ideal S4x4096 .i8) (w : Vec Ideal S32x4096 .fp8e4m3) (u : Fin 32) (d : Fin 4096) :
    k0_pay11 (k0_pay10 x2 w) (ix2 u d) = w (ix2 u d) * pow2 ((x2 (ix2 (2 : Fin 4) d)).setWidth 32) := by
  pointwise [k0_pay11, k0_pay10, k0_pay7, pow2]
theorem xd3 (x2 : Vec Ideal S4x4096 .i8) (w : Vec Ideal S32x4096 .fp8e4m3) (u : Fin 32) (d : Fin 4096) :
    k0_pay12 (k0_pay7 x2) w (ix2 u d) = w (ix2 u d) * pow2 ((x2 (ix2 (3 : Fin 4) d)).setWidth 32) := by
  pointwise [k0_pay12, k0_pay7, pow2]

/-- A window of a matrix reads the matrix at its offset. -/
theorem window_at {s : Shape} {α : Type} (x : s.Idx → α) (off size : Fin s.rank → ℕ) (h : ∀ a, off a + size a ≤ s.size a)
    (z : (a : Fin s.rank) → Fin (size a)) (y : s.Idx) (hy : ∀ a, (y a).val = off a + (z a).val) :
    VecWindow.window x off size h z = x y := by
  refine congrArg x (funext fun a => Fin.ext ?_)
  show off a + 1 * (z a).val = (y a).val
  rw [hy a, Nat.one_mul]

/-- Row `32 b + u` of a matrix, out of its window of 32 rows. -/
theorem xRows_apply (b : ℕ) (h : ∀ a, (![b, 0] : Fin 2 → ℕ) a + S32x4096.size a ≤ S128x4096.size a)
    (x1 : Vec Ideal S128x4096 .fp8e4m3) (u : Fin 32) (d : Fin 4096) (s : Fin 128) (hs : s.val = b + u.val) :
    xRows b h x1 (ix2 u d) = x1 (ix2 s d) :=
  window_at _ _ _ _ _ _ fun a => match a with
    | ⟨0, _⟩ => hs
    | ⟨1, _⟩ => (Nat.zero_add _).symm

theorem put_ix (x : Vec Ideal S128x4096 .bf16) (b : ℕ) (w : FVec Ideal S32x4096 .bf16) (s : Fin 128) (d : Fin 4096) (u : Fin 32)
    (hs : s.val = b + u.val) : VecWindow.put x ![b, 0] S32x4096.size w (ix2 s d) = w (ix2 u d) :=
  put_at _ _ _ _ _ _ fun a => match a with
    | ⟨0, _⟩ => hs
    | ⟨1, _⟩ => (Nat.zero_add _).symm
theorem put_ix_off (x : Vec Ideal S128x4096 .bf16) (b : ℕ) (w : FVec Ideal S32x4096 .bf16) (s : Fin 128) (d : Fin 4096)
    (hs : s.val < b) : VecWindow.put x ![b, 0] S32x4096.size w (ix2 s d) = x (ix2 s d) :=
  put_off _ _ _ _ _ 0 (Or.inl hs)

theorem xDeq0_apply (x1 : Vec Ideal S128x4096 .fp8e4m3) (x2 : Vec Ideal S4x4096 .i8) (s : Fin 128) (d : Fin 4096) :
    xDeq0 x1 x2 (ix2 s d) = x1 (ix2 s d) * pow2 ((x2 (ix2 (⟨s.val / 32, by omega⟩ : Fin 4) d)).setWidth 32) := by
  unfold xDeq0 xDeq
  rcases Nat.lt_or_ge s.val 96 with h3 | h3
  · rw [put_ix_off _ _ _ _ _ h3]
    rcases Nat.lt_or_ge s.val 64 with h2 | h2
    · rw [put_ix_off _ _ _ _ _ h2]
      rcases Nat.lt_or_ge s.val 32 with h1 | h1
      · rw [put_ix_off _ _ _ _ _ h1, put_ix _ 0 _ s d ⟨s.val, h1⟩ (by simp), xd0, xRows_apply _ _ _ _ _ s (by simp)]
        rw [show (⟨s.val / 32, by omega⟩ : Fin 4) = 0 from Fin.ext (by show s.val / 32 = 0; omega)]
      · rw [put_ix _ 32 _ s d ⟨s.val - 32, by omega⟩ (by simp; omega), xd1, xRows_apply _ _ _ _ _ s (by simp; omega)]
        rw [show (⟨s.val / 32, by omega⟩ : Fin 4) = 1 from Fin.ext (by show s.val / 32 = 1; omega)]
    · rw [put_ix _ 64 _ s d ⟨s.val - 64, by omega⟩ (by simp; omega), xd2, xRows_apply _ _ _ _ _ s (by simp; omega)]
      rw [show (⟨s.val / 32, by omega⟩ : Fin 4) = 2 from Fin.ext (by show s.val / 32 = 2; omega)]
  · rw [put_ix _ 96 _ s d ⟨s.val - 96, by omega⟩ (by simp; omega), xd3, xRows_apply _ _ _ _ _ s (by simp; omega)]
    rw [show (⟨s.val / 32, by omega⟩ : Fin 4) = 3 from Fin.ext (by show s.val / 32 = 3; omega)]

/-! ## The products -/

theorem wScale_apply (x4 : Vec Ideal S32x4096 .i8) (a : Fin 32) (d : Fin 4096) :
    wScale x4 (ix2 a d) = pow2 ((x4 (ix2 a d)).setWidth 32) := by
  pointwise [wScale, k0_pay1, k0_pay37, pow2]

theorem dwPanel_apply (col : Vec Ideal S1024x128 .bf16) (x : Vec Ideal S128x512 .bf16) (r : Fin 1024) (z : Fin 512) :
    k0_pay3 col x (ix2 r z) = ∑ s : Fin 128, (show EReal from col (ix2 r s)) * x (ix2 s z) := by
  pointwise [k0_pay3]

theorem accPanel_apply (w : Vec Ideal S1024x512 .fp8e4m3) (ws : Vec Ideal S32x512 .f32) (acc : Vec Ideal S128x512 .f32)
    (row : Vec Ideal S128x1024 .bf16) (s : Fin 128) (z : Fin 512) :
    k0_pay2 w ws acc row (ix2 s z) = (show EReal from acc (ix2 s z))
      + ∑ r : Fin 1024, (show EReal from row (ix2 s r)) * (w (ix2 r z) * ws (ix2 (⟨r.val / 32, by omega⟩ : Fin 32) z)) := by
  pointwise [k0_pay2]

theorem trips_eq : k0_t1_loop.trips = 8 := by decide +kernel

theorem dwPoint_apply (col : Vec Ideal S1024x128 .bf16) (xd : Vec Ideal S128x4096 .bf16) (r : Fin 1024) (d : Fin 4096) :
    dwPoint col xd (ix2 r d) = ∑ s : Fin 128, (show EReal from col (ix2 r s)) * xd (ix2 s d) := by
  have ht := trips_eq
  rw [dwPoint, dwLoop_done col xd _ (ix2 r d) ⟨d.val / 512, by omega⟩
    (ix2 r (⟨d.val % 512, Nat.mod_lt _ (by omega)⟩ : Fin 512)) rfl (Nat.div_add_mod _ _).symm _ (by omega) le_rfl, dwPanel_apply]
  refine Finset.sum_congr rfl fun s _ => congrArg (fun e : EReal => (show EReal from col (ix2 r s)) * e) ?_
  refine window_at _ _ _ _ _ _ fun a => ?_
  rw [k0_off4_eq]
  match a with
  | ⟨0, _⟩ => exact (Nat.zero_add _).symm
  | ⟨1, _⟩ => exact (Nat.div_add_mod _ _).symm

theorem accPoint_apply (x0 : Vec Ideal S128x1024 .bf16) (x3 : Vec Ideal S1024x4096 .fp8e4m3) (x4 : Vec Ideal S32x4096 .i8)
    (acc : Vec Ideal S128x4096 .f32) (s : Fin 128) (d : Fin 4096) :
    accPoint x0 x3 x4 acc (ix2 s d) = (show EReal from acc (ix2 s d))
      + ∑ r : Fin 1024, (show EReal from rowDeq x0 (ix2 s r))
          * (x3 (ix2 r d) * pow2 ((x4 (ix2 (⟨r.val / 32, by omega⟩ : Fin 32) d)).setWidth 32)) := by
  have ht := trips_eq
  rw [accPoint, accLoop_done _ _ _ _ (ix2 s d) ⟨d.val / 512, by omega⟩
    (ix2 s (⟨d.val % 512, Nat.mod_lt _ (by omega)⟩ : Fin 512)) rfl (Nat.div_add_mod _ _).symm _ (by omega) le_rfl, accPanel_apply]
  have hd : 512 * (d.val / 512) + d.val % 512 = d.val := Nat.div_add_mod _ _
  have e4 : ∀ (x : Vec Ideal S128x4096 .f32) k, k.val = d.val / 512 → VecWindow.window x (k0_off4 k) S128x512.size (k0_off4_inb k)
      (ix2 s (⟨d.val % 512, Nat.mod_lt _ (by omega)⟩ : Fin 512)) = x (ix2 s d) := fun x k hk => by
    refine window_at _ _ _ _ _ _ fun a => ?_
    rw [k0_off4_eq]
    match a with
    | ⟨0, _⟩ => exact (Nat.zero_add _).symm
    | ⟨1, _⟩ => show d.val = 512 * k.val + d.val % 512; omega
  have e2 : ∀ (x : Vec Ideal S1024x4096 .fp8e4m3) k (r : Fin 1024), k.val = d.val / 512 → VecWindow.window x (k0_off2 k) S1024x512.size (k0_off2_inb k)
      (ix2 r (⟨d.val % 512, Nat.mod_lt _ (by omega)⟩ : Fin 512)) = x (ix2 r d) := fun x k r hk => by
    refine window_at _ _ _ _ _ _ fun a => ?_
    rw [k0_off2_eq]
    match a with
    | ⟨0, _⟩ => exact (Nat.zero_add _).symm
    | ⟨1, _⟩ => show d.val = 512 * k.val + d.val % 512; omega
  have e3 : ∀ (x : Vec Ideal S32x4096 .f32) k (r : Fin 32), k.val = d.val / 512 → VecWindow.window x (k0_off3 k) S32x512.size (k0_off3_inb k)
      (ix2 r (⟨d.val % 512, Nat.mod_lt _ (by omega)⟩ : Fin 512)) = x (ix2 r d) := fun x k r hk => by
    refine window_at _ _ _ _ _ _ fun a => ?_
    rw [k0_off3_eq]
    match a with
    | ⟨0, _⟩ => exact (Nat.zero_add _).symm
    | ⟨1, _⟩ => show d.val = 512 * k.val + d.val % 512; omega
  rw [e4 _ _ rfl]
  refine congrArg (fun e : EReal => (show EReal from acc (ix2 s d)) + e) (Finset.sum_congr rfl fun r _ => ?_)
  rw [e2 _ _ _ rfl, e3 _ _ _ rfl, wScale_apply]

theorem accZero_apply (s : Fin 128) (d : Fin 4096) : k0_pay6 (F := Ideal) (ix2 s d) = (0 : EReal) := by
  pointwise [k0_pay6]

end Cert.KernelIdeal.Run

end
-- ==== Proof.Run.Blocks.lean ====
module

public import proofs.«01_k».proof.Proof.Run.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Run

open Idealize.ShloMosaic Idealize.ShloMosaic.TcCoe Idealize.SL.Sem
open Cert.KernelIdeal Cert.KernelIdeal.Gen

/-!
  The blocks the points are handed, as entries of the arguments.
-/

variable (m : (ℓ : Loc nD τ sig) → Buf (Elt Ideal) ℓ)

/-- The printed index maps, over the grid. -/
theorem idx : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = t.val)
    ∧ (win0_8.index t (0 : Fin 2) = 0 ∧ win0_8.index t (1 : Fin 2) = 0)
    ∧ (win0_9.index t (0 : Fin 2) = 0 ∧ win0_9.index t (1 : Fin 2) = t.val)
    ∧ (win0_10.index t (0 : Fin 2) = 0 ∧ win0_10.index t (1 : Fin 2) = t.val) :=
  (by decide +kernel : ∀ t : Fin grid0.N, _)

theorem lt_N (t : Fin cfg0.N) : t.val < 14 := lt_of_lt_of_eq t.isLt N_0

theorem blk0 (c : Dev nD) (t : Fin cfg0.N) (s : Fin 128) (j : Fin 1024) :
    iblk m c 0 t (ix2 s j : S128x1024.Idx)
      = m ((c : Thread nD τ).loc main_arg0) (ix3 (0 : Fin 1) s (⟨t.val * 1024 + j.val, by have := lt_N t; omega⟩ : Fin 14336)) := by
  have := lt_N t
  blk_simp [iblk]
  entry_read
  pointwise
  blk_ext [idx t]

theorem blk1 (c : Dev nD) (t : Fin cfg0.N) (s : Fin 128) (d : Fin 4096) :
    iblk m c 1 t (ix2 s d : S128x4096.Idx) = m ((c : Thread nD τ).loc main_arg1) (ix3 (0 : Fin 1) s d) := by
  blk_simp [iblk]
  entry_read
  pointwise
  blk_ext [idx t]

theorem blk2 (c : Dev nD) (t : Fin cfg0.N) (a : Fin 4) (d : Fin 4096) :
    iblk m c 2 t (ix2 a d : S4x4096.Idx) = m ((c : Thread nD τ).loc main_arg2) (ix3 (0 : Fin 1) a d) := by
  blk_simp [iblk]
  entry_read
  pointwise
  blk_ext [idx t]

theorem blk3 (c : Dev nD) (t : Fin cfg0.N) (r : Fin 1024) (d : Fin 4096) :
    iblk m c 3 t (ix2 r d : S1024x4096.Idx)
      = m ((c : Thread nD τ).loc main_arg3) (ix2 (⟨t.val * 1024 + r.val, by have := lt_N t; omega⟩ : Fin 14336) d) := by
  have := lt_N t
  blk_ext [iblk, V, idx t]

theorem blk4 (c : Dev nD) (t : Fin cfg0.N) (a : Fin 32) (d : Fin 4096) :
    iblk m c 4 t (ix2 a d : S32x4096.Idx)
      = m ((c : Thread nD τ).loc main_arg4) (ix2 (⟨t.val * 32 + a.val, by have := lt_N t; omega⟩ : Fin 448) d) := by
  have := lt_N t
  blk_ext [iblk, V, idx t]

end Cert.KernelIdeal.Run

end
-- ==== Proof.Run.Match.lean ====
module

public import proofs.«01_k».proof.Proof.Run.Products
public import proofs.«01_k».proof.Proof.Run.Blocks

@[expose] public section

set_option maxRecDepth 16384

noncomputable section

namespace Cert.KernelIdeal.Run

open Idealize.ShloMosaic Idealize.ShloMosaic.TcCoe Idealize.SL.Sem
open Cert.KernelIdeal Cert.KernelIdeal.Gen Cert.Scale

/-!
  What each point computes, as entries of the arguments: the tiles of 1024 features put back at their place among the 14336.
-/

variable (m : (ℓ : Loc nD τ sig) → Buf (Elt Ideal) ℓ)

/-- The gradient's entry at token `s`, feature `k`, -/
def dy (c : Dev nD) (s : Fin 128) (k : Fin 14336) : EReal := m ((c : Thread nD τ).loc main_arg0) (ix3 (0 : Fin 1) s k)

/-- the largest magnitude of its 32 features of row block `a`, -/
def rMag (c : Dev nD) (s : Fin 128) (a : Fin 448) : EReal :=
  Finset.univ.fold max ⊥ fun u : Fin 32 => mag (dy m c s (⟨a.val * 32 + u.val, by omega⟩ : Fin 14336))

/-- and of its 32 tokens of column block `a`. -/
def cMag (c : Dev nD) (a : Fin 4) (k : Fin 14336) : EReal :=
  Finset.univ.fold max ⊥ fun u : Fin 32 => mag (dy m c (⟨a.val * 32 + u.val, by omega⟩ : Fin 128) k)

/-- The stored exponent of a row block, -/
def rByte (c : Dev nD) (s : Fin 128) (a : Fin 448) : BitVec 32 := byteOf (rMag m c s a * kappa)
/-- of a column block, -/
def cByte (c : Dev nD) (a : Fin 4) (k : Fin 14336) : BitVec 32 := byteOf (cMag m c a k * kappa)

/-- the code of an entry along its row -/
def rCode (c : Dev nD) (s : Fin 128) (k : Fin 14336) : EReal :=
  codeOf (dy m c s k) (invOf (rByte m c s (⟨k.val / 32, by omega⟩ : Fin 448)))
/-- and along its column. -/
def cCode (c : Dev nD) (s : Fin 128) (k : Fin 14336) : EReal :=
  codeOf (dy m c s k) (invOf (cByte m c (⟨s.val / 32, by omega⟩ : Fin 4) k))

/-- One term of the product with the weights, at feature `k`. -/
def dxTerm (c : Dev nD) (s : Fin 128) (d : Fin 4096) (k : Fin 14336) : EReal :=
  (rCode m c s k * pow2 (rByte m c s (⟨k.val / 32, by omega⟩ : Fin 448)))
    * ((show EReal from m ((c : Thread nD τ).loc main_arg3) (ix2 k d))
      * pow2 ((show BitVec 8 from m ((c : Thread nD τ).loc main_arg4) (ix2 (⟨k.val / 32, by omega⟩ : Fin 448) d)).setWidth 32))

/-- One term of the product with the activations, at token `s`. -/
def dwTerm (c : Dev nD) (n : Fin 14336) (d : Fin 4096) (s : Fin 128) : EReal :=
  (cCode m c s n * pow2 (cByte m c (⟨s.val / 32, by omega⟩ : Fin 4) n))
    * ((show EReal from m ((c : Thread nD τ).loc main_arg1) (ix3 (0 : Fin 1) s d))
      * pow2 ((show BitVec 8 from m ((c : Thread nD τ).loc main_arg2) (ix3 (0 : Fin 1) (⟨s.val / 32, by omega⟩ : Fin 4) d)).setWidth 32))

/-- Feature `j` of tile `t`. -/
def feat (t : Fin cfg0.N) (j : Fin 1024) : Fin 14336 := ⟨t.val * 1024 + j.val, by have := lt_N t; omega⟩
/-- Row block `a` of tile `t`. -/
def rblk (t : Fin cfg0.N) (a : Fin 32) : Fin 448 := ⟨t.val * 32 + a.val, by have := lt_N t; omega⟩

theorem feat_div (t : Fin cfg0.N) (j : Fin 1024) (h : (feat t j).val / 32 < 448) :
    (⟨(feat t j).val / 32, h⟩ : Fin 448) = rblk t (⟨j.val / 32, by omega⟩ : Fin 32) :=
  Fin.ext (show (t.val * 1024 + j.val) / 32 = t.val * 32 + j.val / 32 by omega)

theorem blk_dy (c : Dev nD) (t : Fin cfg0.N) (s : Fin 128) (j : Fin 1024) :
    iblk m c 0 t (ix2 s j : S128x1024.Idx) = dy m c s (feat t j) := blk0 m c t s j

theorem blk_colMag (c : Dev nD) (t : Fin cfg0.N) (a : Fin 4) (j : Fin 1024) :
    colMag (iblk m c 0 t) a j = cMag m c a (feat t j) :=
  congrArg (Finset.univ.fold max ⊥) (funext fun u => congrArg mag (blk_dy m c t _ j))

theorem blk_rowMag (c : Dev nD) (t : Fin cfg0.N) (a : Fin 32) (s : Fin 128) :
    rowMag (iblk m c 0 t) a s = rMag m c s (rblk t a) := by
  refine congrArg (Finset.univ.fold max ⊥) (funext fun u => congrArg mag ((blk_dy m c t s _).trans (congrArg (dy m c s) (Fin.ext ?_))))
  show t.val * 1024 + (a.val * 32 + u.val) = (t.val * 32 + a.val) * 32 + u.val
  omega

/-! ## The entries of a point -/

theorem point_colScale (c : Dev nD) (t : Fin cfg0.N) (a : Fin 4) (j : Fin 1024) :
    colScale (iblk m c 0 t) (ix2 a j) = (cByte m c a (feat t j)).setWidth 8 := by
  rw [colScale_apply, blk_colMag]; rfl

theorem point_colCode (c : Dev nD) (t : Fin cfg0.N) (s : Fin 128) (j : Fin 1024) :
    colCode (iblk m c 0 t) (ix2 s j) = cCode m c s (feat t j) := by
  rw [colCode_apply, blk_colMag, blk_dy]; rfl

theorem point_colDeq (c : Dev nD) (t : Fin cfg0.N) (j : Fin 1024) (s : Fin 128) :
    colDeq (iblk m c 0 t) (ix2 j s) = cCode m c s (feat t j) * pow2 (cByte m c (⟨s.val / 32, by omega⟩ : Fin 4) (feat t j)) := by
  rw [colDeq_apply, blk_colMag, point_colCode]; rfl

theorem point_rowScale (c : Dev nD) (t : Fin cfg0.N) (a : Fin 32) (s : Fin 128) :
    rowScale (iblk m c 0 t) (ix2 a s) = rByte m c s (rblk t a) := by
  rw [rowScale_apply, blk_rowMag]; rfl

theorem point_rowSpread (c : Dev nD) (t : Fin cfg0.N) (s : Fin 128) (j : Fin 1024) :
    rowSpread (iblk m c 0 t) (ix2 s j) = pow2 (rByte m c s (⟨(feat t j).val / 32, by omega⟩ : Fin 448)) := by
  rw [rowSpread_apply, blk_rowMag, feat_div]; rfl

/-- Every block of the gradient has a representable largest magnitude. -/
def FineRows (c : Dev nD) : Prop := (∀ s a, Fine (rMag m c s a)) ∧ ∀ a k, Fine (cMag m c a k)

variable {m}

theorem good_row {c : Dev nD} (hf : FineRows m c) (s : Fin 128) (a : Fin 448) : Good (rMag m c s a * kappa) :=
  good_of_fine _ (hf.1 s a)

theorem good_col {c : Dev nD} (hf : FineRows m c) (a : Fin 4) (k : Fin 14336) : Good (cMag m c a k * kappa) :=
  good_of_fine _ (hf.2 a k)

theorem point_rowCode {c : Dev nD} (hf : FineRows m c) (t : Fin cfg0.N) (s : Fin 128) (j : Fin 1024) :
    rowCode (iblk m c 0 t) (ix2 s j) = rCode m c s (feat t j) := by
  rw [rowCode_apply, point_rowSpread, blk_dy]
  unfold rCode rByte
  rw [good_search _ (good_row hf _ _)]

theorem point_rowDeq {c : Dev nD} (hf : FineRows m c) (t : Fin cfg0.N) (s : Fin 128) (j : Fin 1024) :
    rowDeq (iblk m c 0 t) (ix2 s j)
      = rCode m c s (feat t j) * pow2 (rByte m c s (⟨(feat t j).val / 32, by omega⟩ : Fin 448)) := by
  rw [rowDeq_apply, point_rowCode hf, point_rowSpread]

/-- A point's block of the product with the activations. -/
theorem point_dw (c : Dev nD) (t : Fin cfg0.N) (r : Fin 1024) (d : Fin 4096) :
    dwPoint (colDeq (iblk m c 0 t)) (xdAll m c) (ix2 r d) = ∑ s : Fin 128, dwTerm m c (feat t r) d s := by
  rw [dwPoint_apply]
  refine Fin.sum_fin_congr fun s => ?_
  unfold xdAll
  rw [point_colDeq, xDeq0_apply, blk1, blk2]
  rfl

/-- A point's term of the product with the weights. -/
theorem point_dx {c : Dev nD} (hf : FineRows m c) (t : Fin cfg0.N) (s : Fin 128) (d : Fin 4096) (r : Fin 1024) :
    (show EReal from rowDeq (iblk m c 0 t) (ix2 s r)) * ((show EReal from iblk m c 3 t (ix2 r d : S1024x4096.Idx))
      * pow2 ((show BitVec 8 from iblk m c 4 t (ix2 (⟨r.val / 32, by omega⟩ : Fin 32) d : S32x4096.Idx)).setWidth 32))
      = dxTerm m c s d (feat t r) := by
  have e : rblk t (⟨r.val / 32, by omega⟩ : Fin 32) = (⟨(feat t r).val / 32, by omega⟩ : Fin 448) := (feat_div t r _).symm
  unfold dxTerm
  rw [point_rowDeq hf, blk3, blk4, ← e]
  rfl

/-- The accumulator after `n` points: the terms of the first `1024 n` features. -/
theorem acc_terms {c : Dev nD} (hf : FineRows m c) (s : Fin 128) (d : Fin 4096) : ∀ (n : ℕ) (h : n ≤ cfg0.N),
    accAt m c n h (ix2 s d) = ∑ t : Fin n, ∑ r : Fin 1024, dxTerm m c s d (feat ⟨t.val, lt_of_lt_of_le t.isLt h⟩ r)
  | 0, _ => by
    rw [Fin.sum_univ_zero]
    exact accZero_apply s d
  | n + 1, h => by
    rw [Fin.sum_univ_castSucc]
    refine (accPoint_apply _ _ _ _ s d).trans ?_
    rw [acc_terms hf s d n (Nat.le_of_succ_le h)]
    exact congrArg₂ (· + ·) rfl (Finset.sum_congr rfl fun r _ => point_dx hf (pt n h) s d r)

/-- After the last point: the whole product with the weights. -/
theorem acc_all {c : Dev nD} (hf : FineRows m c) (s : Fin 128) (d : Fin 4096) (n : ℕ) (h : n ≤ cfg0.N) (hn : n = 14) :
    accAt m c n h (ix2 s d) = ∑ k : Fin 14336, dxTerm m c s d k := by
  subst hn
  rw [acc_terms hf]
  exact (Fin.sum_univ_tiles 14 1024 rfl (dxTerm m c s d)).symm

/-- The row blocks' stored exponents after the last point. -/
theorem scale_all (c : Dev nD) (v : Vec Ideal S448x128 .i32) (s : Fin 128) (a : Fin 448) (n : ℕ) (h : n ≤ cfg0.N) (hn : n = 14) :
    k0_pay5 (scaleAt m c v n h) (ix2 s a) = (rByte m c s a).setWidth 8 := by
  have hN : cfg0.N = 14 := N_0
  have e : scaleAt m c v n h (ix2 a s) = rByte m c s a := by
    rw [scaleAt_done m c v (ix2 a s) (a.val / 32) (by omega) (ix2 (⟨a.val % 32, Nat.mod_lt _ (by omega)⟩ : Fin 32) s)
      (show a.val = 32 * (a.val / 32) + a.val % 32 by omega) rfl n h (by omega), point_rowScale]
    exact congrArg (rByte m c s) (Fin.ext (show a.val / 32 * 32 + a.val % 32 = a.val by omega))
  rw [← e]
  generalize scaleAt m c v n h = w
  pointwise [k0_pay5]

end Cert.KernelIdeal.Run

end
-- ==== Proof.Run.Final.lean ====
module

public import proofs.«01_k».proof.Proof.Run.Match

@[expose] public section

set_option maxRecDepth 16384

noncomputable section

namespace Cert.KernelIdeal.Run

open Idealize.ShloMosaic Idealize.ShloMosaic.TcCoe Idealize.SL.Sem
open Cert.KernelIdeal Cert.KernelIdeal.Gen Cert.Scale

/-!
  The six result arrays after the run, entry by entry.
-/

variable (m : (ℓ : Loc nD τ sig) → Buf (Elt Ideal) ℓ) (c : Dev nD)

/-- The product with the weights, -/
def R5 : S128x4096.Idx → EReal := fun i => ∑ k : Fin 14336, dxTerm m c (i 0) (i 1) k
/-- the product with the activations, -/
def R6 : S14336x4096.Idx → EReal := fun i => ∑ s : Fin 128, dwTerm m c (i 0) (i 1) s
/-- the row codes -/
def R7 : S128x14336.Idx → EReal := fun i => rCode m c (i 0) (i 1)
/-- and scales, -/
def R8 : S128x448.Idx → BitVec 8 := fun i => (rByte m c (i 0) (i 1)).setWidth 8
/-- the column codes -/
def R9 : S128x14336.Idx → EReal := fun i => cCode m c (i 0) (i 1)
/-- and scales. -/
def R10 : S4x14336.Idx → BitVec 8 := fun i => (cByte m c (i 0) (i 1)).setWidth 8

theorem last_val {t : Fin cfg0.N} (h : t.val % 14 = 13) : t.val + 1 = 14 := by have := lt_N t; omega

/-- A block's place in its array, axis by axis. -/
theorem place (i j n a : ℕ) (h : i = j) : i * n + 1 * a = j * n + a := by rw [h, Nat.one_mul]

/-- At block index 0. -/
theorem place_zero (i n a : ℕ) (h : i = 0) : i * n + 1 * a = a := by rw [h, Nat.one_mul, Nat.zero_mul, Nat.zero_add]

theorem final5 (hf : FineRows m c) : (dats m 0 c).arrAt 5 cfg0.N = R5 m c := by
  refine (dats m 0 c).arrAt_eq_of_covers 5 (R5 m c) (by decide +kernel) fun t hft y => ?_
  blk_simp
  idx_vars y
  rw [after0_5]
  have hi : win0_5.index t (0 : Fin 2) = 0 ∧ win0_5.index t (1 : Fin 2) = 0 := by simp only [idx t, and_self]
  have e : ((View.whole main_v3_0).slice (win0_5.rect t)).emb (ix2 y0 y1) = ix2 y0 y1 := by
    refine funext fun a => Fin.ext ?_
    match a with
    | ⟨0, _⟩ => exact place_zero _ 128 y0.val hi.1
    | ⟨1, _⟩ => exact place_zero _ 4096 y1.val hi.2
  rw [e]
  exact acc_all hf _ _ _ t.isLt (last_val ((flush0_5 t).mp hft))

theorem final6 : (dats m 0 c).arrAt 6 cfg0.N = R6 m c := by
  refine (dats m 0 c).arrAt_eq_of_covers 6 (R6 m c) (by decide +kernel) fun t hft y => ?_
  blk_simp
  idx_vars y
  rw [after0_6]
  have hi : win0_6.index t (0 : Fin 2) = t.val ∧ win0_6.index t (1 : Fin 2) = 0 := by simp only [idx t, and_self]
  have e : ((View.whole main_v3_1).slice (win0_6.rect t)).emb (ix2 y0 y1) = ix2 (feat t y0) y1 := by
    refine funext fun a => Fin.ext ?_
    match a with
    | ⟨0, _⟩ => exact place _ _ 1024 y0.val hi.1
    | ⟨1, _⟩ => exact place_zero _ 4096 y1.val hi.2
  rw [e]
  exact point_dw c t y0 y1

theorem final7 (hf : FineRows m c) : (dats m 0 c).arrAt 7 cfg0.N = R7 m c := by
  refine (dats m 0 c).arrAt_eq_of_covers 7 (R7 m c) (by decide +kernel) fun t hft y => ?_
  blk_simp
  idx_vars y
  rw [after0_7]
  have hi : win0_7.index t (0 : Fin 2) = 0 ∧ win0_7.index t (1 : Fin 2) = t.val := by simp only [idx t, and_self]
  have e : ((View.whole main_v3_2).slice (win0_7.rect t)).emb (ix2 y0 y1) = ix2 y0 (feat t y1) := by
    refine funext fun a => Fin.ext ?_
    match a with
    | ⟨0, _⟩ => exact place_zero _ 128 y0.val hi.1
    | ⟨1, _⟩ => exact place _ _ 1024 y1.val hi.2
  rw [e]
  exact point_rowCode hf t y0 y1

theorem final8 : (dats m 0 c).arrAt 8 cfg0.N = R8 m c := by
  refine (dats m 0 c).arrAt_eq_of_covers 8 (R8 m c) (by decide +kernel) fun t hft y => ?_
  blk_simp
  idx_vars y
  rw [after0_8]
  have hi : win0_8.index t (0 : Fin 2) = 0 ∧ win0_8.index t (1 : Fin 2) = 0 := by simp only [idx t, and_self]
  have e : ((View.whole main_v3_3).slice (win0_8.rect t)).emb (ix2 y0 y1) = ix2 y0 y1 := by
    refine funext fun a => Fin.ext ?_
    match a with
    | ⟨0, _⟩ => exact place_zero _ 128 y0.val hi.1
    | ⟨1, _⟩ => exact place_zero _ 448 y1.val hi.2
  rw [e]
  exact scale_all c _ _ _ _ t.isLt (last_val ((flush0_8 t).mp hft))

theorem final9 : (dats m 0 c).arrAt 9 cfg0.N = R9 m c := by
  refine (dats m 0 c).arrAt_eq_of_covers 9 (R9 m c) (by decide +kernel) fun t hft y => ?_
  blk_simp
  idx_vars y
  rw [after0_9]
  have hi : win0_9.index t (0 : Fin 2) = 0 ∧ win0_9.index t (1 : Fin 2) = t.val := by simp only [idx t, and_self]
  have e : ((View.whole main_v3_4).slice (win0_9.rect t)).emb (ix2 y0 y1) = ix2 y0 (feat t y1) := by
    refine funext fun a => Fin.ext ?_
    match a with
    | ⟨0, _⟩ => exact place_zero _ 128 y0.val hi.1
    | ⟨1, _⟩ => exact place _ _ 1024 y1.val hi.2
  rw [e]
  exact point_colCode m c t y0 y1

theorem final10 : (dats m 0 c).arrAt 10 cfg0.N = R10 m c := by
  refine (dats m 0 c).arrAt_eq_of_covers 10 (R10 m c) (by decide +kernel) fun t hft y => ?_
  blk_simp
  idx_vars y
  rw [after0_10]
  have hi : win0_10.index t (0 : Fin 2) = 0 ∧ win0_10.index t (1 : Fin 2) = t.val := by simp only [idx t, and_self]
  have e : ((View.whole main_v3_5).slice (win0_10.rect t)).emb (ix2 y0 y1) = ix2 y0 (feat t y1) := by
    refine funext fun a => Fin.ext ?_
    match a with
    | ⟨0, _⟩ => exact place_zero _ 4 y0.val hi.1
    | ⟨1, _⟩ => exact place _ _ 1024 y1.val hi.2
  rw [e]
  exact point_colScale m c t y0 y1

end Cert.KernelIdeal.Run

end
-- ==== Proof.Ref.Entry.lean ====
module

public import proofs.«01_k».proof.Proof.Gen.ReferenceIdeal.Skeleton
public import proofs.«01_k».proof.Proof.Math.Byte

@[expose] public section

set_option maxRecDepth 16384

noncomputable section

namespace Cert.ReferenceIdeal.Ref

open Idealize.ShloMosaic Cert.ReferenceIdeal Cert.ReferenceIdeal.Gen Cert.Scale

/-!
  The reference's vectors at the extended reals, one entry at a time.
-/

/-! ## Exponents -/

/-- The exponent of a block, entry by entry. -/
def vexp {s : Shape} (q : FVec Ideal s .f32) : FVec Ideal s .f32 :=
  select (ori (cmpf .oeq q (broadcast s (Scalar.ofBits .f32 0x00000000#32))) (cmpf .oeq q (broadcast s (Scalar.ofBits .f32 0x7F800000#32))))
    (broadcast s (Scalar.ofBits .f32 0x00000000#32))
    (addf (floor (divf (log q) (broadcast s (Scalar.log (Scalar.ofBits .f32 0x40000000#32))))) (broadcast s (Scalar.ofBits .f32 0x3F800000#32)))

theorem zero_bits : Ideal.ofBits .f32 0x00000000#32 = (0 : EReal) := by simp [Ideal.ofBits, Ideal.ieee]
theorem one_bits : Ideal.ofBits .f32 0x3F800000#32 = (1 : EReal) := by simp [Ideal.ofBits, Ideal.ieee, -EReal.coe_mul]; norm_num

theorem vexp_apply {s : Shape} (q : FVec Ideal s .f32) (y : s.Idx) : vexp q y = expOf (q y) := by
  have h : vexp q y = Scalar.select (IntOp.ori (Ideal.cmp .oeq (q y) (Ideal.ofBits .f32 0x00000000#32))
      (Ideal.cmp .oeq (q y) (Ideal.ofBits .f32 0x7F800000#32))) (Ideal.ofBits .f32 0x00000000#32)
      (Ideal.liftRound Int.floor (Ideal.div (Ideal.log (q y)) (Ideal.log (Ideal.ofBits .f32 0x40000000#32)))
        + Ideal.ofBits .f32 0x3F800000#32) := rfl
  rw [h, zero_bits, one_bits]
  rfl

/-! ## The blocks of 32 -/

theorem flat_apply (a0 : Vec Ideal S1x128x14336 .bf16) (s : Fin 128) (k : Fin 14336) :
    k0_pay1 a0 (ix2 s k) = a0 (ix3 (0 : Fin 1) s k) := by
  pointwise [k0_pay1]

theorem rows_apply (v : FVec Ideal S128x14336 .f32) (s : Fin 128) (a : Fin 448) (u : Fin 32) :
    shapeCast S128x448x32 v shapeCasts_S128x14336_S128x448x32 (ix3 s a u) = v (ix2 s (⟨a.val * 32 + u.val, by omega⟩ : Fin 14336)) := by
  pointwise

theorem cols_apply (v : FVec Ideal S128x14336 .f32) (a : Fin 4) (u : Fin 32) (k : Fin 14336) :
    shapeCast S4x32x14336 v shapeCasts_S128x14336_S4x32x14336 (ix3 a u k) = v (ix2 (⟨a.val * 32 + u.val, by omega⟩ : Fin 128) k) := by
  pointwise

/-- The gradient by row blocks, -/
theorem rowBlock_apply (a0 : Vec Ideal S1x128x14336 .bf16) (s : Fin 128) (a : Fin 448) (u : Fin 32) :
    k0_pay2 a0 (ix3 s a u) = a0 (ix3 (0 : Fin 1) s (⟨a.val * 32 + u.val, by omega⟩ : Fin 14336)) := by
  have h : k0_pay2 a0 = shapeCast S128x448x32 (k0_pay1 a0) shapeCasts_S128x14336_S128x448x32 := rfl
  rw [h, rows_apply, flat_apply]

/-- and by column blocks. -/
theorem colBlock_apply (a0 : Vec Ideal S1x128x14336 .bf16) (a : Fin 4) (u : Fin 32) (k : Fin 14336) :
    k0_pay6 a0 (ix3 a u k) = a0 (ix3 (0 : Fin 1) (⟨a.val * 32 + u.val, by omega⟩ : Fin 128) k) := by
  have h : k0_pay6 a0 = shapeCast S4x32x14336 (k0_pay1 a0) shapeCasts_S128x14336_S4x32x14336 := rfl
  rw [h, cols_apply, flat_apply]

/-- The largest magnitude of the row block `a` (32 features) of token `s`. -/
def rowMag (a0 : Vec Ideal S1x128x14336 .bf16) (s : Fin 128) (a : Fin 448) : EReal :=
  Finset.univ.fold max ⊥ fun u : Fin 32 => mag (a0 (ix3 (0 : Fin 1) s (⟨a.val * 32 + u.val, by omega⟩ : Fin 14336)))

/-- The largest magnitude of the column block `a` (32 tokens) of feature `k`. -/
def colMag (a0 : Vec Ideal S1x128x14336 .bf16) (a : Fin 4) (k : Fin 14336) : EReal :=
  Finset.univ.fold max ⊥ fun u : Fin 32 => mag (a0 (ix3 (0 : Fin 1) (⟨a.val * 32 + u.val, by omega⟩ : Fin 128) k))

/-- A written constant. -/
theorem bits (b : BitVec 32) : (Scalar.ofBits .f32 b : Ideal .f32) = Ideal.ofBits .f32 b := rfl

theorem rowMax_apply (v : FVec Ideal S128x448x32 .f32) (s : Fin 128) (a : Fin 448) :
    multiReduction .maximumf [2] S128x448 (absf v) 0xFF800000#32 reduces_S128x448x32_S128x448 (.inl rfl) rfl (ix2 s a)
      = Finset.univ.fold max ⊥ fun u : Fin 32 => mag (v (ix3 s a u)) := by
  pointwise [neg_inf_bits]

theorem colMax_apply (v : FVec Ideal S4x32x14336 .f32) (a : Fin 4) (k : Fin 14336) :
    multiReduction .maximumf [1] S4x14336 (absf v) 0xFF800000#32 reduces_S4x32x14336_S4x14336 (.inl rfl) rfl (ix2 a k)
      = Finset.univ.fold max ⊥ fun u : Fin 32 => mag (v (ix3 a u k)) := by
  pointwise [neg_inf_bits]

theorem rowLast_apply (w : FVec Ideal S128x448 .f32) (s : Fin 128) (a : Fin 448) :
    shapeCast S128x448x1 w shapeCasts_S128x448_S128x448x1 (ix3 s a (0 : Fin 1)) = w (ix2 s a) := by
  pointwise

theorem colMid_apply (w : FVec Ideal S4x14336 .f32) (a : Fin 4) (k : Fin 14336) :
    shapeCast S4x1x14336 w shapeCasts_S4x14336_S4x1x14336 (ix3 a (0 : Fin 1) k) = w (ix2 a k) := by
  pointwise

/-- A vector times a constant. -/
theorem scaled_apply {S : Shape} (w : FVec Ideal S .f32) (κ : Ideal .f32) (y : S.Idx) :
    mulf w (broadcast S κ) y = (show EReal from w y) * (show EReal from κ) := rfl

/-- The row blocks' largest magnitudes, times a constant. -/
def rowQ (v : FVec Ideal S128x448x32 .f32) (κ : Ideal .f32) : FVec Ideal S128x448x1 .f32 :=
  mulf (shapeCast S128x448x1 (multiReduction .maximumf [2] S128x448 (absf v) 0xFF800000#32 reduces_S128x448x32_S128x448 (.inl rfl) rfl) shapeCasts_S128x448_S128x448x1)
    (broadcast S128x448x1 κ)

theorem rowQ_apply (v : FVec Ideal S128x448x32 .f32) (κ : Ideal .f32) (s : Fin 128) (a : Fin 448) :
    rowQ v κ (ix3 s a (0 : Fin 1)) = (Finset.univ.fold max ⊥ fun u : Fin 32 => mag (v (ix3 s a u))) * (show EReal from κ) := by
  rw [rowQ, scaled_apply, rowLast_apply, rowMax_apply]

/-- The column blocks' largest magnitudes, times a constant. -/
def colQ (v : FVec Ideal S4x32x14336 .f32) (κ : Ideal .f32) : FVec Ideal S4x1x14336 .f32 :=
  mulf (shapeCast S4x1x14336 (multiReduction .maximumf [1] S4x14336 (absf v) 0xFF800000#32 reduces_S4x32x14336_S4x14336 (.inl rfl) rfl) shapeCasts_S4x14336_S4x1x14336)
    (broadcast S4x1x14336 κ)

theorem colQ_apply (v : FVec Ideal S4x32x14336 .f32) (κ : Ideal .f32) (a : Fin 4) (k : Fin 14336) :
    colQ v κ (ix3 a (0 : Fin 1) k) = (Finset.univ.fold max ⊥ fun u : Fin 32 => mag (v (ix3 a u k))) * (show EReal from κ) := by
  rw [colQ, scaled_apply, colMid_apply, colMax_apply]

theorem rowExp_apply (a0 : Vec Ideal S1x128x14336 .bf16) (s : Fin 128) (a : Fin 448) :
    k0_pay3 a0 (ix3 s a (0 : Fin 1)) = expOf (rowMag a0 s a * kappa) := by
  have h : k0_pay3 a0 = vexp (rowQ (k0_pay2 a0) (Scalar.ofBits .f32 0x3B124925#32)) := rfl
  rw [h, vexp_apply, rowQ_apply, bits]
  exact congrArg (fun x => expOf (x * kappa)) (congrArg (Finset.univ.fold max ⊥) (funext fun u => congrArg mag (rowBlock_apply a0 s a u)))

theorem colExp_apply (a0 : Vec Ideal S1x128x14336 .bf16) (a : Fin 4) (k : Fin 14336) :
    k0_pay9 (k0_pay7 a0) (k0_pay8 (F := Ideal)) (ix3 a (0 : Fin 1) k) = expOf (colMag a0 a k * kappa) := by
  have h : k0_pay9 (k0_pay7 a0) (k0_pay8 (F := Ideal)) = vexp (colQ (k0_pay6 a0) (Scalar.ofBits .f32 0x3B124925#32)) := rfl
  rw [h, vexp_apply, colQ_apply, bits]
  exact congrArg (fun x => expOf (x * kappa)) (congrArg (Finset.univ.fold max ⊥) (funext fun u => congrArg mag (colBlock_apply a0 a u k)))

/-! ## Codes and stored bytes -/

/-- The codes of the row blocks, for written bounds `lo`, `hi` and a written zero `z`. -/
def rowCodes (v : FVec Ideal S128x448x32 .f32) (p : FVec Ideal S128x448x1 .f32) (z lo hi : Ideal .f32) : FVec Ideal S128x14336 .fp8e4m3 :=
  shapeCast S128x14336 (truncf .fp8e4m3 (minimumf (broadcast S128x448x32 hi) (maximumf (broadcast S128x448x32 lo)
    (mulf v (broadcastTo S128x448x32 (exp2 (subf (broadcast S128x448x1 z) p)) broadcasts_S128x448x1_S128x448x32)))) bitsLt_fp8e4m3_f32)
    shapeCasts_S128x448x32_S128x14336

theorem rowCodes_apply (v : FVec Ideal S128x448x32 .f32) (p : FVec Ideal S128x448x1 .f32) (z lo hi : EReal) (s : Fin 128) (k : Fin 14336) :
    rowCodes v p z lo hi (ix2 s k) = min hi (max lo ((show EReal from v (ix3 s (⟨k.val / 32, by omega⟩ : Fin 448) (⟨k.val % 32, by omega⟩ : Fin 32)))
      * Ideal.exp2 (z - (show EReal from p (ix3 s (⟨k.val / 32, by omega⟩ : Fin 448) (0 : Fin 1)))))) := by
  pointwise [rowCodes]
  rfl

/-- The codes of the column blocks. -/
def colCodes (v : FVec Ideal S4x32x14336 .f32) (p : FVec Ideal S4x1x14336 .f32) (z lo hi : Ideal .f32) : FVec Ideal S128x14336 .fp8e4m3 :=
  shapeCast S128x14336 (truncf .fp8e4m3 (minimumf (broadcast S4x32x14336 hi) (maximumf (broadcast S4x32x14336 lo)
    (mulf v (broadcastTo S4x32x14336 (exp2 (subf (broadcast S4x1x14336 z) p)) broadcasts_S4x1x14336_S4x32x14336)))) bitsLt_fp8e4m3_f32)
    shapeCasts_S4x32x14336_S128x14336

theorem colCodes_apply (v : FVec Ideal S4x32x14336 .f32) (p : FVec Ideal S4x1x14336 .f32) (z lo hi : EReal) (s : Fin 128) (k : Fin 14336) :
    colCodes v p z lo hi (ix2 s k) = min hi (max lo ((show EReal from v (ix3 (⟨s.val / 32, by omega⟩ : Fin 4) (⟨s.val % 32, by omega⟩ : Fin 32) k))
      * Ideal.exp2 (z - (show EReal from p (ix3 (⟨s.val / 32, by omega⟩ : Fin 4) (0 : Fin 1) k))))) := by
  pointwise [colCodes]
  rfl

theorem rowCode_apply (a0 : Vec Ideal S1x128x14336 .bf16) (s : Fin 128) (k : Fin 14336) :
    k0_pay4 a0 (ix2 s k)
      = codeOf (a0 (ix3 (0 : Fin 1) s k)) (Ideal.exp2 (0 - expOf (rowMag a0 s (⟨k.val / 32, by omega⟩ : Fin 448) * kappa))) := by
  have e : a0 (ix3 (0 : Fin 1) s k) = k0_pay2 a0 (ix3 s (⟨k.val / 32, by omega⟩ : Fin 448) (⟨k.val % 32, by omega⟩ : Fin 32)) := by
    rw [rowBlock_apply]
    exact congrArg (fun k => a0 (ix3 (0 : Fin 1) s k)) (Fin.ext (Nat.div_add_mod' k.val 32).symm)
  rw [← rowExp_apply, e]
  have h : k0_pay4 a0 = rowCodes (k0_pay2 a0) (k0_pay3 a0) (Scalar.ofBits .f32 0x00000000#32)
      (Scalar.ofBits .f32 0xC3E00000#32) (Scalar.ofBits .f32 0x43E00000#32) := rfl
  rw [h, bits, bits, bits, rowCodes_apply, zero_bits]
  rfl

theorem rowStored_apply (a0 : Vec Ideal S1x128x14336 .bf16) (s : Fin 128) (a : Fin 448) :
    k0_pay5 a0 (ix2 s a) = storedOf (rowMag a0 s a * kappa) := by
  unfold storedOf
  rw [← rowExp_apply]
  generalize hp : k0_pay3 a0 = p
  pointwise [k0_pay5, hp]
  rfl

theorem colCode_apply (a0 : Vec Ideal S1x128x14336 .bf16) (s : Fin 128) (k : Fin 14336) :
    k0_pay10 (k0_pay6 a0) (k0_pay7 a0) (k0_pay8 (F := Ideal)) (ix2 s k)
      = codeOf (a0 (ix3 (0 : Fin 1) s k)) (Ideal.exp2 (0 - expOf (colMag a0 (⟨s.val / 32, by omega⟩ : Fin 4) k * kappa))) := by
  have e : a0 (ix3 (0 : Fin 1) s k) = k0_pay6 a0 (ix3 (⟨s.val / 32, by omega⟩ : Fin 4) (⟨s.val % 32, by omega⟩ : Fin 32) k) := by
    rw [colBlock_apply]
    exact congrArg (fun s => a0 (ix3 (0 : Fin 1) s k)) (Fin.ext (Nat.div_add_mod' s.val 32).symm)
  rw [← colExp_apply, e]
  have h : k0_pay10 (k0_pay6 a0) (k0_pay7 a0) (k0_pay8 (F := Ideal)) = colCodes (k0_pay6 a0) (k0_pay9 (k0_pay7 a0) (k0_pay8 (F := Ideal)))
      (Scalar.ofBits .f32 0x00000000#32) (Scalar.ofBits .f32 0xC3E00000#32) (Scalar.ofBits .f32 0x43E00000#32) := rfl
  rw [h, bits, bits, bits, colCodes_apply, zero_bits]
  rfl

theorem colStored_apply (a0 : Vec Ideal S1x128x14336 .bf16) (a : Fin 4) (k : Fin 14336) :
    k0_pay11 (k0_pay7 a0) (k0_pay8 (F := Ideal)) (ix2 a k) = storedOf (colMag a0 a k * kappa) := by
  unfold storedOf
  rw [← colExp_apply]
  generalize hp : k0_pay9 (k0_pay7 a0) (k0_pay8 (F := Ideal)) = p
  pointwise [k0_pay11, hp]
  rfl

/-! ## The two products -/

theorem dx_apply (q : FVec Ideal S128x14336 .fp8e4m3) (b : IVec S128x448 8) (w : Vec Ideal S14336x4096 .fp8e4m3)
    (ws : Vec Ideal S448x4096 .i8) (s : Fin 128) (d : Fin 4096) :
    k0_pay14 (k0_pay12 q b) (k0_pay13 w) ws (ix2 s d)
      = ∑ k : Fin 14336, (q (ix2 s k) * scaleOf (b (ix2 s (⟨k.val / 32, by omega⟩ : Fin 448))))
          * (w (ix2 k d) * scaleOf (ws (ix2 (⟨k.val / 32, by omega⟩ : Fin 448) d))) := by
  pointwise [k0_pay14, k0_pay12, k0_pay13]
  exact Finset.sum_congr rfl fun k _ => rfl

theorem dw_apply (q : FVec Ideal S128x14336 .fp8e4m3) (b : IVec S4x14336 8) (x : Vec Ideal S1x128x4096 .fp8e4m3)
    (xs : Vec Ideal S1x4x4096 .i8) (n : Fin 14336) (d : Fin 4096) :
    k0_pay15 q b x xs (ix2 n d)
      = ∑ s : Fin 128, (q (ix2 s n) * scaleOf (b (ix2 (⟨s.val / 32, by omega⟩ : Fin 4) n)))
          * (x (ix3 (0 : Fin 1) s d) * scaleOf (xs (ix3 (0 : Fin 1) (⟨s.val / 32, by omega⟩ : Fin 4) d))) := by
  pointwise [k0_pay15]
  exact Finset.sum_congr rfl fun k _ => rfl

end Cert.ReferenceIdeal.Ref

end
-- ==== Proof.Agree.lean ====
module

public import proofs.«01_k».proof.Proof.Run.Final
public import proofs.«01_k».proof.Proof.Ref.Entry
public import proofs.«01_k».proof.Proof.Gen.ReferenceIdeal.Value

@[expose] public section

set_option maxRecDepth 16384

noncomputable section

namespace Cert.KernelIdeal.Run

open Idealize.ShloMosaic Idealize.ShloMosaic.TcCoe Idealize.SL.Sem
open Cert.KernelIdeal Cert.KernelIdeal.Gen Cert.Scale
open Cert.ReferenceIdeal.Value (G5 G6 G7 G8 G9 G10)

/-!
  The kernel's results are the reference's, entry by entry: where the block's largest magnitude is ordinary, the exponent
  found by comparisons is the one the logarithm gives, its stored byte, its power of two and its reciprocal are the same
  numbers; and the products have the same terms.
-/

variable (m : (ℓ : Loc nD τ sig) → Buf (Elt Ideal) ℓ) (c : Dev nD)

/-- The gradient, -/
abbrev A0 : Vec Ideal S1x128x14336 .bf16 := m ((c : Thread nD τ).loc main_arg0)
/-- the activations' codes -/
abbrev A1 : Vec Ideal S1x128x4096 .fp8e4m3 := m ((c : Thread nD τ).loc main_arg1)
/-- and scales, -/
abbrev A2 : Vec Ideal S1x4x4096 .i8 := m ((c : Thread nD τ).loc main_arg2)
/-- the weights' codes -/
abbrev A3 : Vec Ideal S14336x4096 .fp8e4m3 := m ((c : Thread nD τ).loc main_arg3)
/-- and scales. -/
abbrev A4 : Vec Ideal S448x4096 .i8 := m ((c : Thread nD τ).loc main_arg4)

/-- The reference reads its first argument whole. -/
theorem whole (x : Vec Ideal Cert.ReferenceIdeal.S1x128x14336 .bf16) : View.ld x Cert.ReferenceIdeal.Gen.r0_0 = x :=
  View.ld_unit_zero (S := Cert.ReferenceIdeal.S1x128x14336) (by funext a; fin_cases a <;> rfl) _ x

theorem ref_rMag (s : Fin 128) (a : Fin 448) : Cert.ReferenceIdeal.Ref.rowMag (A0 m c) s a = rMag m c s a := rfl
theorem ref_cMag (a : Fin 4) (k : Fin 14336) : Cert.ReferenceIdeal.Ref.colMag (A0 m c) a k = cMag m c a k := rfl

variable {m c}

/-! ## Codes and scales -/

theorem rCode_ref (hf : FineRows m c) (s : Fin 128) (k : Fin 14336) :
    Cert.ReferenceIdeal.Gen.k0_pay4 (A0 m c) (ix2 s k) = rCode m c s k := by
  rw [Cert.ReferenceIdeal.Ref.rowCode_apply, ref_rMag, good_inv _ (good_row hf _ _)]
  rfl

theorem rByte_ref (hf : FineRows m c) (s : Fin 128) (a : Fin 448) :
    Cert.ReferenceIdeal.Gen.k0_pay5 (A0 m c) (ix2 s a) = (rByte m c s a).setWidth 8 := by
  rw [Cert.ReferenceIdeal.Ref.rowStored_apply, ref_rMag, good_stored _ (good_row hf _ _)]
  rfl

theorem cCode_ref (hf : FineRows m c) (s : Fin 128) (k : Fin 14336) :
    Cert.ReferenceIdeal.Gen.k0_pay10 (Cert.ReferenceIdeal.Gen.k0_pay6 (A0 m c)) (Cert.ReferenceIdeal.Gen.k0_pay7 (A0 m c))
      (Cert.ReferenceIdeal.Gen.k0_pay8 (F := Ideal)) (ix2 s k) = cCode m c s k := by
  rw [Cert.ReferenceIdeal.Ref.colCode_apply, ref_cMag, good_inv _ (good_col hf _ _)]
  rfl

theorem cByte_ref (hf : FineRows m c) (a : Fin 4) (k : Fin 14336) :
    Cert.ReferenceIdeal.Gen.k0_pay11 (Cert.ReferenceIdeal.Gen.k0_pay7 (A0 m c)) (Cert.ReferenceIdeal.Gen.k0_pay8 (F := Ideal)) (ix2 a k)
      = (cByte m c a k).setWidth 8 := by
  rw [Cert.ReferenceIdeal.Ref.colStored_apply, ref_cMag, good_stored _ (good_col hf _ _)]
  rfl

theorem rScale_ref (hf : FineRows m c) (s : Fin 128) (a : Fin 448) :
    scaleOf ((rByte m c s a).setWidth 8) = pow2 (rByte m c s a) := good_scale _ (good_row hf s a)

theorem cScale_ref (hf : FineRows m c) (a : Fin 4) (k : Fin 14336) :
    scaleOf ((cByte m c a k).setWidth 8) = pow2 (cByte m c a k) := good_scale _ (good_col hf a k)

/-! ## The six results -/

theorem agree7 (hf : FineRows m c) : R7 m c = G7 (A0 m c) (A1 m c) (A2 m c) (A3 m c) (A4 m c) := by
  funext i
  idx_vars i
  unfold G7 Cert.ReferenceIdeal.Gen.k0_pay16
  rw [whole, rCode_ref hf]
  rfl

theorem agree8 (hf : FineRows m c) : R8 m c = G8 (A0 m c) (A1 m c) (A2 m c) (A3 m c) (A4 m c) := by
  funext i
  idx_vars i
  unfold G8 Cert.ReferenceIdeal.Gen.k0_pay17
  rw [whole, rByte_ref hf]
  rfl

theorem agree9 (hf : FineRows m c) : R9 m c = G9 (A0 m c) (A1 m c) (A2 m c) (A3 m c) (A4 m c) := by
  funext i
  idx_vars i
  unfold G9 Cert.ReferenceIdeal.Gen.k0_pay20 Cert.ReferenceIdeal.Gen.k0_pay18 Cert.ReferenceIdeal.Gen.k0_pay19
  rw [whole, cCode_ref hf]
  rfl

theorem agree10 (hf : FineRows m c) : R10 m c = G10 (A0 m c) (A1 m c) (A2 m c) (A3 m c) (A4 m c) := by
  funext i
  idx_vars i
  unfold G10 Cert.ReferenceIdeal.Gen.k0_pay21 Cert.ReferenceIdeal.Gen.k0_pay18 Cert.ReferenceIdeal.Gen.k0_pay19
  rw [whole, cByte_ref hf]
  rfl

theorem agree5 (hf : FineRows m c) (hw : ∀ i, 1 ≤ (A4 m c i).toNat ∧ (A4 m c i).toNat ≤ 254) :
    R5 m c = G5 (A0 m c) (A1 m c) (A2 m c) (A3 m c) (A4 m c) := by
  funext i
  idx_vars i
  unfold G5 Cert.ReferenceIdeal.Gen.k0_pay16 Cert.ReferenceIdeal.Gen.k0_pay17
  rw [whole, Cert.ReferenceIdeal.Ref.dx_apply]
  refine Finset.sum_congr rfl fun k _ => ?_
  rw [rCode_ref hf, rByte_ref hf, rScale_ref hf, scaleOf_eq _ (hw _).1 (hw _).2]
  rfl

theorem agree6 (hf : FineRows m c) (hx : ∀ i, 1 ≤ (A2 m c i).toNat ∧ (A2 m c i).toNat ≤ 254) :
    R6 m c = G6 (A0 m c) (A1 m c) (A2 m c) (A3 m c) (A4 m c) := by
  funext i
  idx_vars i
  unfold G6 Cert.ReferenceIdeal.Gen.k0_pay20 Cert.ReferenceIdeal.Gen.k0_pay21 Cert.ReferenceIdeal.Gen.k0_pay18 Cert.ReferenceIdeal.Gen.k0_pay19
  rw [whole, Cert.ReferenceIdeal.Ref.dw_apply]
  refine Finset.sum_congr rfl fun s _ => ?_
  rw [cCode_ref hf, cByte_ref hf, cScale_ref hf, scaleOf_eq _ (hx _).1 (hx _).2]
  rfl

end Cert.KernelIdeal.Run

end
-- ==== Proof.Ordinary.lean ====
module

public import proofs.«01_k».proof.Pre_ordinary
public import proofs.«01_k».proof.Proof.Math.Byte
public import Idealize.ShloMosaic.Lib.Pointwise

@[expose] public section

set_option maxRecDepth 16384

noncomputable section

namespace Cert.Pre_ordinary

open Idealize.ShloMosaic Cert.Scale

/-!
  The precondition, read at an index: the largest magnitude of each row block and of each column block of the gradient
  is zero, infinite or ordinary, and the stored scales are exponents of ordinary numbers.
-/

theorem facts : Facts where
  bitsLt_bf16_f32 := by decide
  shapeCasts_S1x128x14336_S128x448x32 := by decide
  reducesTo_S128x448x32_S128x448_d2 := by decide
  h_S_ := by decide
  shapeCasts_S1x128x14336_S4x32x14336 := by decide
  reducesTo_S4x32x14336_S4x14336_d1 := by decide
  natLt_8_32 := by decide
  bcast_S_S128x448 := by decide
  bcast_S_S4x14336 := by decide
  bcast_S_S1x4x4096 := by decide
  bcast_S_S448x4096 := by decide

/-- A stored scale between 1 and 254, from the two comparisons of its 32-bit form. -/
theorem scale_bounds (s : BitVec 8)
    (h : IntOp.andi (IntOp.cmpi .sge (s.setWidth 32) 1#32) (IntOp.cmpi .sle (s.setWidth 32) 254#32) = 1#1) :
    1 ≤ s.toNat ∧ s.toNat ≤ 254 := by
  revert h
  revert s
  decide +kernel

/-- A disjunction bit. -/
theorem or_bit (a b : Bool) (h : IntOp.ori (BitVec.ofBool a) (BitVec.ofBool b) = 1#1) : a = true ∨ b = true := by
  revert h; revert a b; decide

theorem or_ofBool (a b : Bool) : IntOp.ori (BitVec.ofBool a) (BitVec.ofBool b) = BitVec.ofBool (a || b) := by
  revert a b; decide

theorem and_ofBool (a b : Bool) : IntOp.andi (BitVec.ofBool a) (BitVec.ofBool b) = BitVec.ofBool (a && b) := by
  revert a b; decide

theorem ofBool_one (a : Bool) : BitVec.ofBool a = 1#1 ↔ a = true := by
  revert a; decide

theorem inf_top : Ideal.ofBits .f32 0x7F800000#32 = (⊤ : EReal) := by simp [Ideal.ofBits, Ideal.ieee]

/-- A largest magnitude, from its comparisons. -/
theorem fine_of_bits (x : EReal)
    (h : IntOp.ori (IntOp.ori (Ideal.cmp .oeq x (Ideal.ofBits .f32 0x00000000#32))
        (IntOp.andi (Ideal.cmp .oge x (Ideal.ofBits .f32 0x04E00000#32)) (Ideal.cmp .ole x (Ideal.ofBits .f32 0x7F7FFFFF#32))))
      (Ideal.cmp .oeq x (Ideal.ofBits .f32 0x7F800000#32)) = 1#1) : Fine x := by
  unfold Ideal.cmp at h
  rw [and_ofBool, or_ofBool, or_ofBool, ofBool_one, inf_top,
    show Ideal.ofBits .f32 0x00000000#32 = (0 : EReal) by simp [Ideal.ofBits, Ideal.ieee]] at h
  simp only [Bool.or_eq_true, Bool.and_eq_true, decide_eq_true_eq] at h
  unfold Fine
  tauto

/-- The maximum over the last axis, -/
theorem rowMax_apply (x : FVec Ideal S128x448x32 .f32) (hr : S128x448x32.ReducesTo [2] S128x448) (hs) (s : Fin 128) (a : Fin 448) :
    Host.reduce FloatOps.maximumf x (constant (F := Ideal) S_ .f32 0xFF800000#32) hr hs (ix2 s a)
      = Finset.univ.fold max ⊥ fun u : Fin 32 => (show EReal from x (ix3 s a u)) := by
  pointwise [neg_inf_bits]

/-- over the middle one, -/
theorem colMax_apply (x : FVec Ideal S4x32x14336 .f32) (hr : S4x32x14336.ReducesTo [1] S4x14336) (hs) (a : Fin 4) (k : Fin 14336) :
    Host.reduce FloatOps.maximumf x (constant (F := Ideal) S_ .f32 0xFF800000#32) hr hs (ix2 a k)
      = Finset.univ.fold max ⊥ fun u : Fin 32 => (show EReal from x (ix3 a u k)) := by
  pointwise [neg_inf_bits]

/-- the features of a row in blocks of 32, -/
theorem rowBlock_apply (x : FVec Ideal S1x128x14336 .f32) (h : S1x128x14336.ShapeCasts S128x448x32) (s : Fin 128) (a : Fin 448)
    (u : Fin 32) :
    shapeCast S128x448x32 x h (ix3 s a u) = x (ix3 (0 : Fin 1) s (⟨a.val * 32 + u.val, by omega⟩ : Fin 14336)) := by
  pointwise

/-- and the tokens in blocks of 32. -/
theorem colBlock_apply (x : FVec Ideal S1x128x14336 .f32) (h : S1x128x14336.ShapeCasts S4x32x14336) (a : Fin 4) (u : Fin 32)
    (k : Fin 14336) :
    shapeCast S4x32x14336 x h (ix3 a u k) = x (ix3 (0 : Fin 1) (⟨a.val * 32 + u.val, by omega⟩ : Fin 128) k) := by
  pointwise

/-- The test of an array of row maxima, -/
theorem fine_rowTest (v : FVec Ideal S128x448 .f32) (hb)
    (h : ori (ori (cmpf .oeq v (broadcastInDim S128x448 ![] hb (constant (F := Ideal) S_ .f32 0x00000000#32)))
        (andi (cmpf .oge v (broadcastInDim S128x448 ![] hb (constant (F := Ideal) S_ .f32 0x04E00000#32)))
          (cmpf .ole v (broadcastInDim S128x448 ![] hb (constant (F := Ideal) S_ .f32 0x7F7FFFFF#32)))))
      (cmpf .oeq v (broadcastInDim S128x448 ![] hb (constant (F := Ideal) S_ .f32 0x7F800000#32))) = fun _ => 1#1)
    (j : S128x448.Idx) : Fine (v j) :=
  fine_of_bits _ (congrFun h j)

/-- and of column maxima. -/
theorem fine_colTest (v : FVec Ideal S4x14336 .f32) (hb)
    (h : ori (ori (cmpf .oeq v (broadcastInDim S4x14336 ![] hb (constant (F := Ideal) S_ .f32 0x00000000#32)))
        (andi (cmpf .oge v (broadcastInDim S4x14336 ![] hb (constant (F := Ideal) S_ .f32 0x04E00000#32)))
          (cmpf .ole v (broadcastInDim S4x14336 ![] hb (constant (F := Ideal) S_ .f32 0x7F7FFFFF#32)))))
      (cmpf .oeq v (broadcastInDim S4x14336 ![] hb (constant (F := Ideal) S_ .f32 0x7F800000#32))) = fun _ => 1#1)
    (j : S4x14336.Idx) : Fine (v j) :=
  fine_of_bits _ (congrFun h j)

variable [Facts] (a0 : FVec Ideal S1x128x14336 .bf16) (a1 : FVec Ideal S1x128x4096 .fp8e4m3) (a2 : IVec S1x4x4096 8)
  (a3 : FVec Ideal S14336x4096 .fp8e4m3) (a4 : IVec S448x4096 8)

/-- The largest magnitude of a row block, -/
theorem fine_rows (h : (fn a0 a1 a2 a3 a4).1 = fun _ => 1#1) (s : Fin 128) (a : Fin 448) :
    Fine (Finset.univ.fold max ⊥ fun u : Fin 32 => mag (a0 (ix3 (0 : Fin 1) s (⟨a.val * 32 + u.val, by omega⟩ : Fin 14336)))) := by
  have e := fine_rowTest (Host.reduce FloatOps.maximumf
      (shapeCast S128x448x32 (Host.absf (extf .f32 a0 Facts.bitsLt_bf16_f32)) Facts.shapeCasts_S1x128x14336_S128x448x32)
      (constant (F := Ideal) S_ .f32 0xFF800000#32) Facts.reducesTo_S128x448x32_S128x448_d2 Facts.h_S_) Facts.bcast_S_S128x448 h (ix2 s a)
  rw [rowMax_apply] at e
  simp only [rowBlock_apply] at e
  exact e

/-- and of a column block. -/
theorem fine_cols (h : (fn a0 a1 a2 a3 a4).2.1 = fun _ => 1#1) (a : Fin 4) (k : Fin 14336) :
    Fine (Finset.univ.fold max ⊥ fun u : Fin 32 => mag (a0 (ix3 (0 : Fin 1) (⟨a.val * 32 + u.val, by omega⟩ : Fin 128) k))) := by
  have e := fine_colTest (Host.reduce FloatOps.maximumf
      (shapeCast S4x32x14336 (Host.absf (extf .f32 a0 Facts.bitsLt_bf16_f32)) Facts.shapeCasts_S1x128x14336_S4x32x14336)
      (constant (F := Ideal) S_ .f32 0xFF800000#32) Facts.reducesTo_S4x32x14336_S4x14336_d1 Facts.h_S_) Facts.bcast_S_S4x14336 h (ix2 a k)
  rw [colMax_apply] at e
  simp only [colBlock_apply] at e
  exact e

theorem bounds_x (h : (fn a0 a1 a2 a3 a4).2.2.1 = fun _ => 1#1) (i : S1x4x4096.Idx) :
    1 ≤ (a2 i).toNat ∧ (a2 i).toNat ≤ 254 :=
  scale_bounds _ (congrFun h i)

theorem bounds_w (h : (fn a0 a1 a2 a3 a4).2.2.2 = fun _ => 1#1) (i : S448x4096.Idx) :
    1 ≤ (a4 i).toNat ∧ (a4 i).toNat ≤ 254 :=
  scale_bounds _ (congrFun h i)

end Cert.Pre_ordinary

end
-- ==== Proof.Value.lean ====
module

public import proofs.«01_k».proof.Defs
public import proofs.«01_k».proof.Proof.Agree
public import proofs.«01_k».proof.Proof.Ordinary

@[expose] public section

noncomputable section

namespace Cert.KernelIdeal.Run

open Idealize.ShloMosaic Idealize.ShloMosaic.TcCoe Idealize.SL.Sem
open Cert.KernelIdeal Cert.KernelIdeal.Gen Cert.Scale
open Cert.ReferenceIdeal.Value (G5 G6 G7 G8 G9 G10)

/-!
  The kernel's run ends with the reference's six functions of the arguments in its results, and the reference's run ends
  with the same.
-/

variable (m : (ℓ : Loc nD τ sig) → Buf (Elt Ideal) ℓ) (ρ : Dev nD → PrngReg)

/-- What the precondition gives of a device's arguments. -/
structure Ordinary (c : Dev nD) : Prop where
  rows : FineRows m c
  x : ∀ i, 1 ≤ (A2 m c i).toNat ∧ (A2 m c i).toNat ≤ 254
  w : ∀ i, 1 ≤ (A4 m c i).toNat ∧ (A4 m c i).toNat ≤ 254

theorem ordinary_of_pre [Cert.Pre_ordinary.Facts] (h : Pre_KernelIdeal_ordinary m) (c : Dev nD) : Ordinary m c where
  rows := ⟨fun s a => Cert.Pre_ordinary.fine_rows _ _ _ _ _ (h c).1 s a,
    fun a k => Cert.Pre_ordinary.fine_cols _ _ _ _ _ (h c).2.1 a k⟩
  x := fun i => Cert.Pre_ordinary.bounds_x _ _ _ _ _ (h c).2.2.1 i
  w := fun i => Cert.Pre_ordinary.bounds_w _ _ _ _ _ (h c).2.2.2 i

/-- The kernel's run. -/
theorem results (ho : ∀ c, Ordinary m c) :
    θ_run defs (onTc (τ := τ) (main (F := Ideal))) ⟨m, fun _ => 0, ρ⟩ (fun r => ∀ c : Dev nD,
      r.2.mem ((c.tc : Thread nD τ).loc main_v3_0) = G5 (A0 m c) (A1 m c) (A2 m c) (A3 m c) (A4 m c)
      ∧ r.2.mem ((c.tc : Thread nD τ).loc main_v3_1) = G6 (A0 m c) (A1 m c) (A2 m c) (A3 m c) (A4 m c)
      ∧ r.2.mem ((c.tc : Thread nD τ).loc main_v3_2) = G7 (A0 m c) (A1 m c) (A2 m c) (A3 m c) (A4 m c)
      ∧ r.2.mem ((c.tc : Thread nD τ).loc main_v3_3) = G8 (A0 m c) (A1 m c) (A2 m c) (A3 m c) (A4 m c)
      ∧ r.2.mem ((c.tc : Thread nD τ).loc main_v3_4) = G9 (A0 m c) (A1 m c) (A2 m c) (A3 m c) (A4 m c)
      ∧ r.2.mem ((c.tc : Thread nD τ).loc main_v3_5) = G10 (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).1 5).trans ((final5 m c (ho c).rows).trans (agree5 (ho c).rows (ho c).w)),
        ((h.1 c).1 6).trans ((final6 m c).trans (agree6 (ho c).rows (ho c).x)),
        ((h.1 c).1 7).trans ((final7 m c (ho c).rows).trans (agree7 (ho c).rows)),
        ((h.1 c).1 8).trans ((final8 m c).trans (agree8 (ho c).rows)),
        ((h.1 c).1 9).trans ((final9 m c).trans (agree9 (ho c).rows)),
        ((h.1 c).1 10).trans ((final10 m c).trans (agree10 (ho c).rows)), h.2 c⟩)
    (θ_run_and (run_main m ρ) (unchanged m ρ))

/-- Kernel and reference, from the same arguments. -/
theorem algebraic [Cert.Pre_ordinary.Facts] : Cert.algebraic_KernelIdeal_ReferenceIdeal_pre_ordinary := by
  intro m g m' g' hpre hagree
  refine ⟨_, _, _, _, _, _, results m g (ordinary_of_pre m hpre), ?_⟩
  refine (θ_run Cert.ReferenceIdeal.defs _ _).mono (fun r h c => ?_) (Cert.ReferenceIdeal.Value.run m' g')
  obtain ⟨h0, h1, h2, h3, h4, h5, hk⟩ := h c
  obtain ⟨e0, e1, e2, e3, e4⟩ := hagree c
  rw [e0, e1, e2, e3, e4] at h0 h1 h2 h3 h4 h5
  exact ⟨h0, h1, h2, h3, h4, h5, hk⟩

end Cert.KernelIdeal.Run

end
-- ==== Proof.lean ====
module

public import proofs.«01_k».proof.Defs
public import proofs.«01_k».proof.Proof.Run.Same
public import proofs.«01_k».proof.Proof.Gen.ReferenceIdeal.Value
public import proofs.«01_k».proof.Proof.Value

@[expose] public section

/-!
  The claim: the three frames, and the kernel's results at the extended reals are the reference's.
-/

theorem Cert.Proof.claim : Cert.Claim :=
  ⟨Cert.Kernel.Gen.facts, Cert.KernelIdeal.Gen.facts, Cert.ReferenceIdeal.Gen.facts, Cert.Pre_ordinary.facts,
    fun m ρ _ => Cert.Kernel.Run.frame m ρ, fun m ρ _ => Cert.KernelIdeal.Run.frame m ρ,
    fun m ρ _ => Cert.KernelIdeal.Run.frame m ρ, fun m ρ _ => Cert.ReferenceIdeal.Gen.frame m ρ,
    fun m ρ _ => Cert.ReferenceIdeal.Gen.frame m ρ, trivial,
    @Cert.KernelIdeal.Run.algebraic Cert.Pre_ordinary.facts⟩
